-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 128]⟩ ⟨2, ![4096, 2048]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x128 : Shape := ⟨2, ![4096, 128]⟩
abbrev S1 : Shape := ⟨1, ![1]⟩
abbrev S9x256x4096 : Shape := ⟨3, ![9, 256, 4096]⟩
abbrev S8x2 : Shape := ⟨2, ![8, 2]⟩
abbrev S_ : Shape := ⟨0, ![]⟩
abbrev S128x4096 : Shape := ⟨2, ![128, 4096]⟩
abbrev S1x128x4096 : Shape := ⟨3, ![1, 128, 4096]⟩
abbrev S1x1 : Shape := ⟨2, ![1, 1]⟩
abbrev S1x256x4096 : Shape := ⟨3, ![1, 256, 4096]⟩
abbrev S256x128 : Shape := ⟨2, ![256, 128]⟩
abbrev S128x128 : Shape := ⟨2, ![128, 128]⟩

abbrev nBuf : Space → Nat
  | .hbm => 5
  | .vmem => 5
  | .smem => 2
  | _ => 0

abbrev bufTy : (tb : Table) → Fin (tcTables nBuf tb) → BufTy
  | .hbm, ⟨0, _⟩ => ⟨S256x4096, .fp8e4m3⟩
  | .hbm, ⟨1, _⟩ => ⟨S4096x128, .fp8e4m3⟩
  | .hbm, ⟨2, _⟩ => ⟨S1, .f32⟩
  | .hbm, ⟨3, _⟩ => ⟨S1, .f32⟩
  | .hbm, ⟨4, _⟩ => ⟨S4096x128, .f32⟩
  | .local _ .vmem, ⟨0, _⟩ => ⟨S256x4096, .fp8e4m3⟩
  | .local _ .vmem, ⟨1, _⟩ => ⟨S4096x128, .fp8e4m3⟩
  | .local _ .vmem, ⟨2, _⟩ => ⟨S4096x128, .f32⟩
  | .local _ .vmem, ⟨3, _⟩ => ⟨S9x256x4096, .fp8e4m3⟩
  | .local _ .vmem, ⟨4, _⟩ => ⟨S9x256x4096, .fp8e4m3⟩
  | .local _ .smem, ⟨0, _⟩ => ⟨S1, .f32⟩
  | .local _ .smem, ⟨1, _⟩ => ⟨S1, .f32⟩
  | _, _ => ⟨S256x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_22 : BitVec 32 := 1#32
  let v21 : BitVec 32 := Scalar.muli v7 c1_i32_22
  let v22 : BitVec 32 := Scalar.addi c0_i32_23 v21
  v22.toNat
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_38 : BitVec 32 := 1#32
  let v36 : BitVec 32 := Scalar.muli v5 c1_i32_38
  let v37 : BitVec 32 := Scalar.addi c0_i32_39 v36
  v37.toNat
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_51 : BitVec 32 := 1#32
  let v47 : BitVec 32 := Scalar.muli v7 c1_i32_51
  let v48 : BitVec 32 := Scalar.addi c0_i32_52 v47
  v48.toNat
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_63 : BitVec 32 := 1#32
  let v57 : BitVec 32 := Scalar.muli v5 c1_i32_63
  let v58 : BitVec 32 := Scalar.addi c0_i32_64 v57
  v58.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v79 : BitVec 32 := Scalar.muli v2 c256_i32
  let v80 : Index := Scalar.indexCast v79
  let c0_75 : Index := 0#32
  ![v80.toNat, 0]
def k0_dev7 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_94 : BitVec 32 := 1#32
  let v90 : BitVec 32 := Scalar.muli v7 c1_i32_94
  let v91 : BitVec 32 := Scalar.addi c0_i32_95 v90
  v91.toNat
def k0_dev8 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_118 : BitVec 32 := 1#32
  let v108 : BitVec 32 := Scalar.muli v7 c1_i32_118
  let v109 : BitVec 32 := Scalar.addi c0_i32_119 v108
  v109.toNat
def k0_dev9 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_144 : BitVec 32 := 1#32
  let v127 : BitVec 32 := Scalar.muli v5 c1_i32_144
  let v128 : BitVec 32 := Scalar.addi c0_i32_145 v127
  v128.toNat
def k0_dev10 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_172 : BitVec 32 := 1#32
  let v147 : BitVec 32 := Scalar.muli v5 c1_i32_172
  let v148 : BitVec 32 := Scalar.addi c0_i32_173 v147
  v148.toNat
def k0_off2 (d0 : Dev nD) (c0_i32_180 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v158 : BitVec 32 := Scalar.subi v2 c0_i32_180
  let c1_i32_181 : BitVec 32 := 1#32
  let v159 : BitVec 32 := Scalar.subi v158 c1_i32_181
  let c16_i32_182 : BitVec 32 := 16#32
  let v160 : BitVec 32 := Scalar.addi v159 c16_i32_182
  let c16_i32_183 : BitVec 32 := 16#32
  let v161 : BitVec 32 := Scalar.remsi v160 c16_i32_183
  let c256_i32_189 : BitVec 32 := 256#32
  let v173 : BitVec 32 := Scalar.muli v161 c256_i32_189
  let v174 : Index := Scalar.indexCast v173
  let c0_190 : Index := 0#32
  ![v174.toNat, 0]
def k0_off3 (d0 : Dev nD) (c0_i32_191 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v176 : BitVec 32 := Scalar.addi v2 c0_i32_191
  let c1_i32_192 : BitVec 32 := 1#32
  let v177 : BitVec 32 := Scalar.addi v176 c1_i32_192
  let c16_i32_193 : BitVec 32 := 16#32
  let v178 : BitVec 32 := Scalar.remsi v177 c16_i32_193
  let c256_i32_200 : BitVec 32 := 256#32
  let v190 : BitVec 32 := Scalar.muli v178 c256_i32_200
  let v191 : Index := Scalar.indexCast v190
  let c0_201 : Index := 0#32
  ![v191.toNat, 0]
def k0_dev11 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_219 : BitVec 32 := 1#32
  let v201 : BitVec 32 := Scalar.muli v7 c1_i32_219
  let v202 : BitVec 32 := Scalar.addi c0_i32_220 v201
  v202.toNat
def k0_dev12 (d0 : Dev nD) : Nat :=
  let c0_i32_244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_243 : BitVec 32 := 1#32
  let v219 : BitVec 32 := Scalar.muli v7 c1_i32_243
  let v220 : BitVec 32 := Scalar.addi c0_i32_244 v219
  v220.toNat
def k0_dev13 (d0 : Dev nD) : Nat :=
  let c0_i32_270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_269 : BitVec 32 := 1#32
  let v238 : BitVec 32 := Scalar.muli v5 c1_i32_269
  let v239 : BitVec 32 := Scalar.addi c0_i32_270 v238
  v239.toNat
def k0_dev14 (d0 : Dev nD) : Nat :=
  let c0_i32_298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_297 : BitVec 32 := 1#32
  let v258 : BitVec 32 := Scalar.muli v5 c1_i32_297
  let v259 : BitVec 32 := Scalar.addi c0_i32_298 v258
  v259.toNat
def k0_dev15 (d0 : Dev nD) : Nat :=
  let c0_i32_345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_344 : BitVec 32 := 1#32
  let v312 : BitVec 32 := Scalar.muli v7 c1_i32_344
  let v313 : BitVec 32 := Scalar.addi c0_i32_345 v312
  v313.toNat
def k0_dev16 (d0 : Dev nD) : Nat :=
  let c0_i32_369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_368 : BitVec 32 := 1#32
  let v330 : BitVec 32 := Scalar.muli v7 c1_i32_368
  let v331 : BitVec 32 := Scalar.addi c0_i32_369 v330
  v331.toNat
def k0_dev17 (d0 : Dev nD) : Nat :=
  let c0_i32_395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_394 : BitVec 32 := 1#32
  let v349 : BitVec 32 := Scalar.muli v5 c1_i32_394
  let v350 : BitVec 32 := Scalar.addi c0_i32_395 v349
  v350.toNat
def k0_dev18 (d0 : Dev nD) : Nat :=
  let c0_i32_423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_422 : BitVec 32 := 1#32
  let v369 : BitVec 32 := Scalar.muli v5 c1_i32_422
  let v370 : BitVec 32 := Scalar.addi c0_i32_423 v369
  v370.toNat
def k0_dev19 (d0 : Dev nD) : Nat :=
  let c0_i32_470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_469 : BitVec 32 := 1#32
  let v423 : BitVec 32 := Scalar.muli v7 c1_i32_469
  let v424 : BitVec 32 := Scalar.addi c0_i32_470 v423
  v424.toNat
def k0_dev20 (d0 : Dev nD) : Nat :=
  let c0_i32_494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_493 : BitVec 32 := 1#32
  let v441 : BitVec 32 := Scalar.muli v7 c1_i32_493
  let v442 : BitVec 32 := Scalar.addi c0_i32_494 v441
  v442.toNat
def k0_dev21 (d0 : Dev nD) : Nat :=
  let c0_i32_520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_519 : BitVec 32 := 1#32
  let v460 : BitVec 32 := Scalar.muli v5 c1_i32_519
  let v461 : BitVec 32 := Scalar.addi c0_i32_520 v460
  v461.toNat
def k0_dev22 (d0 : Dev nD) : Nat :=
  let c0_i32_548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_547 : BitVec 32 := 1#32
  let v480 : BitVec 32 := Scalar.muli v5 c1_i32_547
  let v481 : BitVec 32 := Scalar.addi c0_i32_548 v480
  v481.toNat
def k0_dev23 (d0 : Dev nD) : Nat :=
  let c0_i32_595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_594 : BitVec 32 := 1#32
  let v534 : BitVec 32 := Scalar.muli v7 c1_i32_594
  let v535 : BitVec 32 := Scalar.addi c0_i32_595 v534
  v535.toNat
def k0_dev24 (d0 : Dev nD) : Nat :=
  let c0_i32_619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_618 : BitVec 32 := 1#32
  let v552 : BitVec 32 := Scalar.muli v7 c1_i32_618
  let v553 : BitVec 32 := Scalar.addi c0_i32_619 v552
  v553.toNat
def k0_dev25 (d0 : Dev nD) : Nat :=
  let c0_i32_645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_644 : BitVec 32 := 1#32
  let v571 : BitVec 32 := Scalar.muli v5 c1_i32_644
  let v572 : BitVec 32 := Scalar.addi c0_i32_645 v571
  v572.toNat
def k0_dev26 (d0 : Dev nD) : Nat :=
  let c0_i32_673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_672 : BitVec 32 := 1#32
  let v591 : BitVec 32 := Scalar.muli v5 c1_i32_672
  let v592 : BitVec 32 := Scalar.addi c0_i32_673 v591
  v592.toNat
def k0_dev27 (d0 : Dev nD) : Nat :=
  let c0_i32_720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_719 : BitVec 32 := 1#32
  let v645 : BitVec 32 := Scalar.muli v7 c1_i32_719
  let v646 : BitVec 32 := Scalar.addi c0_i32_720 v645
  v646.toNat
def k0_dev28 (d0 : Dev nD) : Nat :=
  let c0_i32_744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_743 : BitVec 32 := 1#32
  let v663 : BitVec 32 := Scalar.muli v7 c1_i32_743
  let v664 : BitVec 32 := Scalar.addi c0_i32_744 v663
  v664.toNat
def k0_dev29 (d0 : Dev nD) : Nat :=
  let c0_i32_770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_769 : BitVec 32 := 1#32
  let v682 : BitVec 32 := Scalar.muli v5 c1_i32_769
  let v683 : BitVec 32 := Scalar.addi c0_i32_770 v682
  v683.toNat
def k0_dev30 (d0 : Dev nD) : Nat :=
  let c0_i32_798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_797 : BitVec 32 := 1#32
  let v702 : BitVec 32 := Scalar.muli v5 c1_i32_797
  let v703 : BitVec 32 := Scalar.addi c0_i32_798 v702
  v703.toNat
def k0_dev31 (d0 : Dev nD) : Nat :=
  let c0_i32_845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_844 : BitVec 32 := 1#32
  let v756 : BitVec 32 := Scalar.muli v7 c1_i32_844
  let v757 : BitVec 32 := Scalar.addi c0_i32_845 v756
  v757.toNat
def k0_dev32 (d0 : Dev nD) : Nat :=
  let c0_i32_883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_882 : BitVec 32 := 1#32
  let v783 : BitVec 32 := Scalar.muli v5 c1_i32_882
  let v784 : BitVec 32 := Scalar.addi c0_i32_883 v783
  v784.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_952 : BitVec 32 := 8#32
  let v855 : BitVec 32 := Scalar.addi v2 c8_i32_952
  let c16_i32_953 : BitVec 32 := 16#32
  let v856 : BitVec 32 := Scalar.remsi v855 c16_i32_953
  let c256_i32_959 : BitVec 32 := 256#32
  let v868 : BitVec 32 := Scalar.muli v856 c256_i32_959
  let v869 : Index := Scalar.indexCast v868
  let c0_960 : Index := 0#32
  ![v869.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_952 : BitVec 32 := 8#32
  let v855 : BitVec 32 := Scalar.addi v2 c8_i32_952
  let c16_i32_953 : BitVec 32 := 16#32
  let v856 : BitVec 32 := Scalar.remsi v855 c16_i32_953
  let c256_i32_967 : BitVec 32 := 256#32
  let v882 : BitVec 32 := Scalar.muli v856 c256_i32_967
  let c128_i32_968 : BitVec 32 := 128#32
  let v883 : BitVec 32 := Scalar.addi v882 c128_i32_968
  let v884 : Index := Scalar.indexCast v883
  let c0_969 : Index := 0#32
  ![v884.toNat, 0]
abbrev stage0_0 : Fin 1 → Memref sig .tc .vmem S256x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e4m3⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "clip_hi" => some ⊤
  | "clip_lo" => some ⊥
  | _ => none

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Program.lean ====
/- The kernel's body written hop by hop: the pieces of the two rings, the transfers and waits over
   them, one block of the product, one hop of both rings, and the equation saying that the printed
   body is exactly this program. -/
module

public import proofs.«01_k».proof.Proof.Gen.KernelIdeal.Skeleton

@[expose] public section

noncomputable section

namespace Cert.KernelIdeal.Own

open Idealize.ShloMosaic Idealize.SL.Sem Cert.KernelIdeal.Gen

variable {F : FTy → Type} [FloatOps F]

/-- The buffer of the nine slots of one ring. -/
abbrev Slots : Type := Memref sig .tc .vmem S9x256x4096 .fp8e4m3

/-- The piece `p` of slot `k` lies inside the nine slots. -/
theorem piece_inb : ∀ (k : Fin 9) (p : Fin 2), ∀ a : Fin 3, (![k.val, 128 * p.val, 0] : Fin 3 → Nat) a + S1x128x4096.size a ≤ S9x256x4096.size a := by
  decide

/-- The rectangle of half `p` of slot `k`. -/
abbrev pieceRect (k : Fin 9) (p : Fin 2) := Rect.unit (s := S9x256x4096) ![k.val, 128 * p.val, 0] S1x128x4096.size (piece_inb k p)

/-- A half slot is whole 32-bit words. -/
theorem piece_words : ∀ (k : Fin 9) (p : Fin 2), (pieceRect k p).WholeWords (EltTy.packing .fp8e4m3) := by decide

/-- Half `p` of slot `k` of the buffer `b`, as the transfers name it. -/
abbrev piece (b : Slots) (k : Fin 9) (p : Fin 2) : Memref sig .tc .vmem S128x4096 .fp8e4m3 :=
  (b.slice (pieceRect k p) (fun _ => rfl)).squeeze S128x4096 squeezes_S1x128x4096_S128x4096

/-- A half slot of a whole buffer is exact in words. -/
theorem piece_wordExact (b : Slots) (hb : b.IsWhole) (k : Fin 9) (p : Fin 2) : (piece b k p).view.WordExact :=
  (hb.wordExact_slice rfl _ (piece_words k p)).reshape _ _

/-- The semaphore `(h, p)` lies in its array. -/
theorem sem_inb : ∀ (h : Fin 8) (p : Fin 2), ∀ a : Fin 2, (![h.val, p.val] : Fin 2 → Nat) a + S1x1.size a ≤ S8x2.size a := by decide

/-- The semaphore of hop `h` and half `p` in the array `a`. -/
abbrev semAt (a : DmaSems sig S8x2) (h : Fin 8) (p : Fin 2) : DmaSem sig :=
  ((a.slice (Rect.unit (s := S8x2) ![h.val, p.val] S1x1.size (sem_inb h p))).squeeze S_ squeezes_S1x1_S_).sem

/-- Slot `k` lies inside the nine slots. -/
theorem slot_inb : ∀ (k : Fin 9), ∀ a : Fin 3, (![k.val, 0, 0] : Fin 3 → Nat) a + S1x256x4096.size a ≤ S9x256x4096.size a := by decide

/-- The rectangle of slot `k`. -/
abbrev slotRect (k : Fin 9) := Rect.unit (s := S9x256x4096) ![k.val, 0, 0] S1x256x4096.size (slot_inb k)

/-- Send half `p` of slot `k` of `a` to half `p` of slot `k'` of `b` on device `n`. -/
abbrev send (a : Slots) (ha : a.IsWhole) (b : Slots) (hb : b.IsWhole) (ss rs : DmaSems sig S8x2) (n : Dev nD)
    (k k' : Fin 9) (h : Fin 8) (p : Fin 2) : Prog (TpuEff nD τ sig (Elt F) Λ₀ .tc) PUnit :=
  Prog.lift (.enqueueDma (piece a k p) (.remote (Dev.tc n) (piece b k' p) (.dma (semAt ss h p))) (.dma (semAt rs h p))
    (piece_wordExact a ha k p) (piece_wordExact b hb k' p) ⟨⟨rfl, Or.inl rfl⟩, trivial⟩)

/-- Wait on the semaphore `(h, p)` of `s` for a transfer from half `p` of slot `k` of `a` to half `p` of slot `k'` of `b`. -/
abbrev await (a : Slots) (ha : a.IsWhole) (b : Slots) (hb : b.IsWhole) (s : DmaSems sig S8x2)
    (k k' : Fin 9) (h : Fin 8) (p : Fin 2) : Prog (TpuEff nD τ sig (Elt F) Λ₀ .tc) PUnit :=
  Prog.lift (.waitDma2 (semAt s h p) (piece a k p) (piece b k' p) (piece_wordExact a ha k p) (piece_wordExact b hb k' p))

/-- The rectangle of the whole block of weights. -/
abbrev wRect := Rect.unit (s := S4096x128) ![0, 0] S4096x128.size inb_S4096x128_S4096x128_0_0

/-- One block of the product: slot `k` of `b` against the weights `w`, stored at the rows of the rectangle at `off` of `o`. -/
def block (b : Slots) (w : Memref sig .tc .vmem S4096x128 .fp8e4m3) (o : Memref sig .tc .vmem S4096x128 .f32) (s : F .f32)
    (k : Fin 9) (off : Fin 2 → Nat) (hoff : ∀ a, off a + S256x128.size a ≤ S4096x128.size a) : Prog (TpuEff nD τ sig (Elt F) Λ₀ .tc) PUnit := do
  let x ← Prog.lift (.load b (slotRect k).toLoadRect (View.loadsAt_vmem h_S1x256x4096))
  let y ← Prog.lift (.load w wRect.toLoadRect (View.loadsAt_vmem h_S4096x128))
  let _ ← Prog.lift (.load o (Rect.unit (s := S4096x128) off S256x128.size hoff).toLoadRect (View.loadsAt_vmem h_S256x128))
  Prog.lift (.store o (Rect.unit (s := S4096x128) off S256x128.size hoff) (k0_pay5 s x y) Finset.univ (View.stores_vmem_bits_univ h_S256x128 rfl) (.inl rfl))

/-- Half a block of the product: half `p` of slot `k` of `b` against the weights. -/
def halfBlock (b : Slots) (w : Memref sig .tc .vmem S4096x128 .fp8e4m3) (o : Memref sig .tc .vmem S4096x128 .f32) (s : F .f32)
    (k : Fin 9) (p : Fin 2) (off : Fin 2 → Nat) (hoff : ∀ a, off a + S128x128.size a ≤ S4096x128.size a) : Prog (TpuEff nD τ sig (Elt F) Λ₀ .tc) PUnit := do
  let x ← Prog.lift (.load b (pieceRect k p).toLoadRect (View.loadsAt_vmem h_S1x128x4096))
  let y ← Prog.lift (.load w wRect.toLoadRect (View.loadsAt_vmem h_S4096x128))
  let _ ← Prog.lift (.load o (Rect.unit (s := S4096x128) off S128x128.size hoff).toLoadRect (View.loadsAt_vmem h_S128x128))
  Prog.lift (.store o (Rect.unit (s := S4096x128) off S128x128.size hoff) (k0_pay26 s x y) Finset.univ (View.stores_vmem_bits_univ h_S128x128 rfl) (.inl rfl))

/-- One of the first six hops, with `nr` and `nl` the devices it sends to and `sl` the buffer the left ring sent from: each half is
    received and sent on, then the two blocks received are multiplied. -/
def hop (h : Fin 6) (a5 : Slots) (h5 : a5.IsWhole) (a6 : Slots) (h6 : a6.IsWhole) (sl : Slots) (hsl : sl.IsWhole)
    (w : Memref sig .tc .vmem S4096x128 .fp8e4m3) (o : Memref sig .tc .vmem S4096x128 .f32) (sr rr sL rL : DmaSems sig S8x2)
    (s : F .f32) (d : Dev nD) (nr0 nr1 nl1 nl0 : Dev nD) : Prog (TpuEff nD τ sig (Elt F) Λ₀ .tc) PUnit := do
  await a5 h5 a5 h5 rr ⟨h.val, by omega⟩ ⟨h.val + 1, by omega⟩ ⟨h.val, by omega⟩ 0
  send a5 h5 a5 h5 sr rr nr0 ⟨h.val + 1, by omega⟩ ⟨h.val + 2, by omega⟩ ⟨h.val + 1, by omega⟩ 0
  await a5 h5 a5 h5 rr ⟨h.val, by omega⟩ ⟨h.val + 1, by omega⟩ ⟨h.val, by omega⟩ 1
  send a5 h5 a5 h5 sr rr nr1 ⟨h.val + 1, by omega⟩ ⟨h.val + 2, by omega⟩ ⟨h.val + 1, by omega⟩ 1
  await sl hsl a6 h6 rL ⟨h.val, by omega⟩ ⟨h.val + 1, by omega⟩ ⟨h.val, by omega⟩ 1
  send a6 h6 a6 h6 sL rL nl1 ⟨h.val + 1, by omega⟩ ⟨h.val + 2, by omega⟩ ⟨h.val + 1, by omega⟩ 1
  await sl hsl a6 h6 rL ⟨h.val, by omega⟩ ⟨h.val + 1, by omega⟩ ⟨h.val, by omega⟩ 0
  send a6 h6 a6 h6 sL rL nl0 ⟨h.val + 1, by omega⟩ ⟨h.val + 2, by omega⟩ ⟨h.val + 1, by omega⟩ 0
  block a5 w o s ⟨h.val + 1, by omega⟩ (k0_off2 d (BitVec.ofNat 32 h.val)) (k0_off2_inb d ⟨h.val, by omega⟩)
  block a6 w o s ⟨h.val + 1, by omega⟩ (k0_off3 d (BitVec.ofNat 32 h.val)) (k0_off3_inb d ⟨h.val, by omega⟩)

/-- The seventh hop: every half is received, one half of each ring is sent on. -/
def hop6 (a5 : Slots) (h5 : a5.IsWhole) (a6 : Slots) (h6 : a6.IsWhole)
    (w : Memref sig .tc .vmem S4096x128 .fp8e4m3) (o : Memref sig .tc .vmem S4096x128 .f32) (sr rr sL rL : DmaSems sig S8x2)
    (s : F .f32) (d : Dev nD) (nr nl : Dev nD) : Prog (TpuEff nD τ sig (Elt F) Λ₀ .tc) PUnit := do
  await a5 h5 a5 h5 rr 6 7 6 0
  send a5 h5 a5 h5 sr rr nr 7 8 7 0
  await a5 h5 a5 h5 rr 6 7 6 1
  await a6 h6 a6 h6 rL 6 7 6 1
  send a6 h6 a6 h6 sL rL nl 7 8 7 1
  await a6 h6 a6 h6 rL 6 7 6 0
  block a5 w o s 7 (k0_off2 d 6#32) (k0_off2_inb d 6)
  block a6 w o s 7 (k0_off3 d 6#32) (k0_off3_inb d 6)

/-- The last hop: the top half of the opposite device's rows comes from the right ring, the bottom half from the left ring. -/
def hop7 (a5 : Slots) (h5 : a5.IsWhole) (a6 : Slots) (h6 : a6.IsWhole)
    (w : Memref sig .tc .vmem S4096x128 .fp8e4m3) (o : Memref sig .tc .vmem S4096x128 .f32) (rr rL : DmaSems sig S8x2)
    (s : F .f32) (d : Dev nD) : Prog (TpuEff nD τ sig (Elt F) Λ₀ .tc) PUnit := do
  await a5 h5 a5 h5 rr 7 8 7 0
  await a6 h6 a6 h6 rL 7 8 7 1
  halfBlock a5 w o s 8 0 (k0_off4 d) (k0_off4_inb d)
  halfBlock a6 w o s 8 1 (k0_off5 d) (k0_off5_inb d)

/-- Wait until both halves sent at hop `h` from `a` to `b` have left, first half `p`, then half `q`. -/
def drain (a : Slots) (ha : a.IsWhole) (b : Slots) (hb : b.IsWhole) (s : DmaSems sig S8x2) (h : Fin 7) (p q : Fin 2) :
    Prog (TpuEff nD τ sig (Elt F) Λ₀ .tc) PUnit := do
  await b hb a ha s ⟨h.val + 1, by omega⟩ ⟨h.val, by omega⟩ ⟨h.val, by omega⟩ p
  await b hb a ha s ⟨h.val + 1, by omega⟩ ⟨h.val, by omega⟩ ⟨h.val, by omega⟩ q

/-- The beginning: both neighbours are told that this device has entered, and told of by both; the scale is read; the device's own
    rows go into slot 0 and from there to both neighbours; its own block of the product is computed. -/
def start (a0 : Memref sig .tc .vmem S256x4096 .fp8e4m3) (a5 : Slots) (h5 : a5.IsWhole) (a6 : Slots) (h6 : a6.IsWhole)
    (w : Memref sig .tc .vmem S4096x128 .fp8e4m3) (a2 a3 : Memref sig .tc .smem S1 .f32)
    (o : Memref sig .tc .vmem S4096x128 .f32) (sr rr sL rL : DmaSems sig S8x2) (d : Dev nD) :
    Prog (TpuEff nD τ sig (Elt F) Λ₀ .tc) (F .f32) := do
  semSignalWord (⟨k0_dev1 d, k0_dev1_lt d⟩ : Dev nD) (SemArray.scalar (sig.barrier 0 rfl) : Sems sig S_).sem 1#32
  semSignalWord (⟨k0_dev2 d, k0_dev2_lt d⟩ : Dev nD) (SemArray.scalar (sig.barrier 0 rfl) : Sems sig S_).sem 1#32
  semWaitWord (SemArray.scalar (sig.barrier 0 rfl) : Sems sig S_).sem 2#32
  let sx : Elt F .f32 ← smemLoad a2 (Rect.unit (s := S1) ![0] S1.size inb_S1_S1_0) numel1_S1 rfl
  let sw : Elt F .f32 ← smemLoad a3 (Rect.unit (s := S1) ![0] S1.size inb_S1_S1_0) numel1_S1 rfl
  let x0 ← Prog.lift (.load a0 (Rect.unit (s := S256x4096) ![0, 0] S128x4096.size inb_S256x4096_S128x4096_0_0).toLoadRect (View.loadsAt_vmem h_S128x4096))
  let _ ← Prog.lift (.load a5 (pieceRect 0 0).toLoadRect (View.loadsAt_vmem h_S1x128x4096))
  Prog.lift (.store a5 (pieceRect 0 0) (k0_pay2 x0) Finset.univ (View.stores_vmem h_S1x128x4096 (h5.storeExact_slice rfl _ packedfp8e4m3_S9x256x4096_S1x128x4096_0_0_0) (fun _ => rfl)) (.inl rfl))
  send a5 h5 a5 h5 sr rr ⟨k0_dev3 d, k0_dev3_lt d⟩ 0 1 0 0
  let x1 ← Prog.lift (.load a0 (Rect.unit (s := S256x4096) ![128, 0] S128x4096.size inb_S256x4096_S128x4096_128_0).toLoadRect (View.loadsAt_vmem h_S128x4096))
  let _ ← Prog.lift (.load a5 (pieceRect 0 1).toLoadRect (View.loadsAt_vmem h_S1x128x4096))
  Prog.lift (.store a5 (pieceRect 0 1) (k0_pay3 x1) Finset.univ (View.stores_vmem h_S1x128x4096 (h5.storeExact_slice rfl _ packedfp8e4m3_S9x256x4096_S1x128x4096_0_128_0) (fun _ => rfl)) (.inl rfl))
  send a5 h5 a6 h6 sL rL ⟨k0_dev4 d, k0_dev4_lt d⟩ 0 1 0 1
  send a5 h5 a5 h5 sr rr ⟨k0_dev5 d, k0_dev5_lt d⟩ 0 1 0 1
  send a5 h5 a6 h6 sL rL ⟨k0_dev6 d, k0_dev6_lt d⟩ 0 1 0 0
  let x ← Prog.lift (.load a0 (Rect.unit (s := S256x4096) ![0, 0] S256x4096.size inb_S256x4096_S256x4096_0_0).toLoadRect (View.loadsAt_vmem h_S256x4096))
  let y ← Prog.lift (.load w wRect.toLoadRect (View.loadsAt_vmem h_S4096x128))
  let _ ← Prog.lift (.load o (Rect.unit (s := S4096x128) (k0_off1 d) S256x128.size (k0_off1_inb d)).toLoadRect (View.loadsAt_vmem h_S256x128))
  Prog.lift (.store o (Rect.unit (s := S4096x128) (k0_off1 d) S256x128.size (k0_off1_inb d)) (k0_pay4 (k0_pay1 sx sw) x y) Finset.univ (View.stores_vmem_bits_univ h_S256x128 rfl) (.inl rfl))
  pure (k0_pay1 sx sw)

/-- The end: every transfer sent has left. -/
def finish (a5 : Slots) (h5 : a5.IsWhole) (a6 : Slots) (h6 : a6.IsWhole) (sr sL : DmaSems sig S8x2) :
    Prog (TpuEff nD τ sig (Elt F) Λ₀ .tc) PUnit := do
  drain a5 h5 a5 h5 sr 0 0 1
  drain a5 h5 a5 h5 sr 1 0 1
  drain a5 h5 a5 h5 sr 2 0 1
  drain a5 h5 a5 h5 sr 3 0 1
  drain a5 h5 a5 h5 sr 4 0 1
  drain a5 h5 a5 h5 sr 5 0 1
  drain a5 h5 a5 h5 sr 6 0 1
  await a5 h5 a5 h5 sr 8 7 7 0
  drain a5 h5 a6 h6 sL 0 1 0
  drain a6 h6 a6 h6 sL 1 1 0
  drain a6 h6 a6 h6 sL 2 1 0
  drain a6 h6 a6 h6 sL 3 1 0
  drain a6 h6 a6 h6 sL 4 1 0
  drain a6 h6 a6 h6 sL 5 1 0
  drain a6 h6 a6 h6 sL 6 1 0
  await a6 h6 a6 h6 sL 8 7 7 1

/-- The whole body. -/
def body (a0 : Memref sig .tc .vmem S256x4096 .fp8e4m3) (w : Memref sig .tc .vmem S4096x128 .fp8e4m3)
    (a2 a3 : Memref sig .tc .smem S1 .f32) (o : Memref sig .tc .vmem S4096x128 .f32)
    (a5 : Slots) (h5 : a5.IsWhole) (a6 : Slots) (h6 : a6.IsWhole) (sr rr sL rL : DmaSems sig S8x2) :
    Prog (TpuEff nD τ sig (Elt F) Λ₀ .tc) PUnit := do
  let d : Dev nD ← Prog.lift .deviceId
  let s ← start a0 a5 h5 a6 h6 w a2 a3 o sr rr sL rL d
  hop 0 a5 h5 a6 h6 a5 h5 w o sr rr sL rL s d ⟨k0_dev7 d, k0_dev7_lt d⟩ ⟨k0_dev8 d, k0_dev8_lt d⟩ ⟨k0_dev9 d, k0_dev9_lt d⟩ ⟨k0_dev10 d, k0_dev10_lt d⟩
  hop 1 a5 h5 a6 h6 a6 h6 w o sr rr sL rL s d ⟨k0_dev11 d, k0_dev11_lt d⟩ ⟨k0_dev12 d, k0_dev12_lt d⟩ ⟨k0_dev13 d, k0_dev13_lt d⟩ ⟨k0_dev14 d, k0_dev14_lt d⟩
  hop 2 a5 h5 a6 h6 a6 h6 w o sr rr sL rL s d ⟨k0_dev15 d, k0_dev15_lt d⟩ ⟨k0_dev16 d, k0_dev16_lt d⟩ ⟨k0_dev17 d, k0_dev17_lt d⟩ ⟨k0_dev18 d, k0_dev18_lt d⟩
  hop 3 a5 h5 a6 h6 a6 h6 w o sr rr sL rL s d ⟨k0_dev19 d, k0_dev19_lt d⟩ ⟨k0_dev20 d, k0_dev20_lt d⟩ ⟨k0_dev21 d, k0_dev21_lt d⟩ ⟨k0_dev22 d, k0_dev22_lt d⟩
  hop 4 a5 h5 a6 h6 a6 h6 w o sr rr sL rL s d ⟨k0_dev23 d, k0_dev23_lt d⟩ ⟨k0_dev24 d, k0_dev24_lt d⟩ ⟨k0_dev25 d, k0_dev25_lt d⟩ ⟨k0_dev26 d, k0_dev26_lt d⟩
  hop 5 a5 h5 a6 h6 a6 h6 w o sr rr sL rL s d ⟨k0_dev27 d, k0_dev27_lt d⟩ ⟨k0_dev28 d, k0_dev28_lt d⟩ ⟨k0_dev29 d, k0_dev29_lt d⟩ ⟨k0_dev30 d, k0_dev30_lt d⟩
  hop6 a5 h5 a6 h6 w o sr rr sL rL s d ⟨k0_dev31 d, k0_dev31_lt d⟩ ⟨k0_dev32 d, k0_dev32_lt d⟩
  hop7 a5 h5 a6 h6 w o rr rL s d
  finish a5 h5 a6 h6 sr sL

/-- The printed body is this program. -/
theorem cc0_body_eq (a0 : Memref sig .tc .vmem S256x4096 .fp8e4m3) (h0 : a0.IsWhole) (w : Memref sig .tc .vmem S4096x128 .fp8e4m3) (hw : w.IsWhole)
    (a2 : Memref sig .tc .smem S1 .f32) (h2 : a2.IsWhole) (a3 : Memref sig .tc .smem S1 .f32) (h3 : a3.IsWhole)
    (o : Memref sig .tc .vmem S4096x128 .f32) (ho : o.IsWhole)
    (a5 : Slots) (h5 : a5.IsWhole) (a6 : Slots) (h6 : a6.IsWhole) (sr rr sL rL : DmaSems sig S8x2) :
    cc0_body (F := F) a0 h0 w hw a2 h2 a3 h3 o ho a5 h5 a6 h6 sr rr sL rL = body a0 w a2 a3 o a5 h5 a6 h6 sr rr sL rL := by
  rfl

end Cert.KernelIdeal.Own
-- ==== Proof.Rings.lean ====
/- The names of the two rings: a direction is a Boolean (`false` to the right, `true` to the left); the
   neighbours, the buffers, the semaphore cells, and what the pieces of a buffer are. -/
module

public import proofs.«01_k».proof.Proof.Program

@[expose] public section

noncomputable section

namespace Cert.KernelIdeal.Own

open Idealize.ShloMosaic Idealize.ShloMosaic.TcCoe Idealize.SL.Sem Cert.KernelIdeal.Gen

variable {F : FTy → Type} [FloatOps F]

/-! ## Devices -/

/-- The device `k` steps to the right of `c`. -/
abbrev rightBy (c : Dev nD) (k : ℕ) : Dev nD := ⟨(c.val + k) % 16, Nat.mod_lt _ (by decide)⟩

/-- The device direction `l` sends to: the right neighbour, or the left. -/
abbrev tgt (l : Bool) (c : Dev nD) : Dev nD := if l then rightBy c 15 else rightBy c 1

/-- The device direction `l` receives from. -/
abbrev frm (l : Bool) (c : Dev nD) : Dev nD := tgt (!l) c

theorem tgt_frm : ∀ (l : Bool) (c : Dev nD), tgt l (frm l c) = c := by decide
theorem frm_tgt : ∀ (l : Bool) (c : Dev nD), frm l (tgt l c) = c := by decide

/-- Stepping around the ring is a bijection of the devices. -/
def around (l : Bool) : Dev nD ≃ Dev nD := ⟨tgt l, frm l, frm_tgt l, tgt_frm l⟩

/-- The slot a hop sends from, and the slot it sends to. -/
abbrev sl0 (h : Fin 8) : Fin 9 := ⟨h.val, by omega⟩
abbrev sl1 (h : Fin 8) : Fin 9 := ⟨h.val + 1, by omega⟩

/-- The device whose rows direction `l` carries in slot `k` on device `c`: `k` steps against the direction. -/
abbrev org (l : Bool) (c : Dev nD) (k : Fin 9) : Dev nD := if l then rightBy c k.val else rightBy c (16 - k.val)

/-- One slot further on the neighbour lie the same rows. -/
theorem org_tgt : ∀ (l : Bool) (c : Dev nD) (h : Fin 8), org l (tgt l c) (sl1 h) = org l c (sl0 h) := by
  decide +kernel

theorem org_zero : ∀ (l : Bool) (c : Dev nD), org l c 0 = c := by decide

/-! ## Which transfers there are -/

/-- The transfers of a direction: both halves at the first seven hops; at the last the top half to the right, the bottom half
    to the left. -/
abbrev used (l : Bool) (h : Fin 8) (p : Fin 2) : Prop := h.val < 7 ∨ p = (if l then 1 else 0)

/-! ## Buffers and their pieces -/

/-- The slots of direction `l`. -/
abbrev buf : Bool → Slots
  | false => Memref.whole cc0_scratch0
  | true => Memref.whole cc0_scratch1

theorem buf_whole (l : Bool) : (buf l).IsWhole := by cases l <;> exact Memref.isWhole_whole _

/-- The buffer a transfer of direction `l` at hop `h` is sent from: at the first hop both directions send from the right
    ring's slot 0. -/
abbrev sd (l : Bool) (h : Fin 8) : Bool := if h.val = 0 then false else l

/-- The semaphores of direction `l`, of sending (`false`) or of receiving (`true`). -/
abbrev sems : Bool → Bool → DmaSems sig S8x2
  | false, false => cc0_scratch2
  | false, true => cc0_scratch3
  | true, false => cc0_scratch4
  | true, true => cc0_scratch5

/-- The elements of half `p` of slot `k`. -/
abbrev pset (k : Fin 9) (p : Fin 2) : Finset S9x256x4096.Idx := (pieceRect k p).set

/-- The elements of slot `k`. -/
abbrev sset (k : Fin 9) : Finset S9x256x4096.Idx := (slotRect k).set

/-- Half `p` of slot `k` is row group `p` of the slot. -/
theorem mem_pset (k : Fin 9) (p : Fin 2) (i : S9x256x4096.Idx) :
    i ∈ pset k p ↔ ((i 0).val = k.val ∧ (i 1).val / 128 = p.val) := by
  have h2 : (i 2).val < 4096 := (i 2).isLt
  have h1 : (i 1).val < 256 := (i 1).isLt
  have hp := p.isLt
  rw [Rect.mem_set_unit, Fin.forall_fin_succ, Fin.forall_fin_succ, Fin.forall_fin_one]
  show ((k.val ≤ (i 0).val ∧ (i 0).val < k.val + 1) ∧ (128 * p.val ≤ (i 1).val ∧ (i 1).val < 128 * p.val + 128)
    ∧ (0 ≤ (i 2).val ∧ (i 2).val < 0 + 4096)) ↔ _
  omega

/-- A slot is its two halves. -/
theorem sset_eq (k : Fin 9) : sset k = pset k 0 ∪ pset k 1 := by
  ext i
  have h2 : (i 2).val < 4096 := (i 2).isLt
  have h1 : (i 1).val < 256 := (i 1).isLt
  rw [Finset.mem_union, mem_pset, mem_pset, Rect.mem_set_unit, Fin.forall_fin_succ, Fin.forall_fin_succ, Fin.forall_fin_one]
  show ((k.val ≤ (i 0).val ∧ (i 0).val < k.val + 1) ∧ (0 ≤ (i 1).val ∧ (i 1).val < 0 + 256)
    ∧ (0 ≤ (i 2).val ∧ (i 2).val < 0 + 4096)) ↔ ((i 0).val = k.val ∧ (i 1).val / 128 = 0) ∨ ((i 0).val = k.val ∧ (i 1).val / 128 = 1)
  omega

theorem pset_disjoint (a b : Fin 9 × Fin 2) (h : a ≠ b) : Disjoint (pset a.1 a.2) (pset b.1 b.2) :=
  Finset.disjoint_left.mpr fun i ha hb => h (by
    rw [mem_pset] at ha hb
    exact Prod.ext (Fin.ext (ha.1.symm.trans hb.1)) (Fin.ext (ha.2.symm.trans hb.2)))

/-- The pieces are the whole buffer. -/
theorem pset_cover : (Finset.univ : Finset (Fin 9 × Fin 2)).biUnion (fun a => pset a.1 a.2) = Finset.univ := by
  ext i
  have h1 : (i 1).val < 256 := (i 1).isLt
  rw [Finset.mem_biUnion]
  exact ⟨fun _ => Finset.mem_univ _, fun _ => ⟨(i 0, ⟨(i 1).val / 128, by omega⟩), Finset.mem_univ _, (mem_pset _ _ _).mpr ⟨rfl, rfl⟩⟩⟩

/-- The view of a piece, in either buffer, is over the piece's elements, placed as its rectangle places them. -/
theorem piece_set_false (k : Fin 9) (p : Fin 2) : (piece (buf false) k p).view.set = pset k p :=
  (View.set_reshape _ _).trans (View.set_slice_whole _ _)
theorem piece_set_true (k : Fin 9) (p : Fin 2) : (piece (buf true) k p).view.set = pset k p :=
  (View.set_reshape _ _).trans (View.set_slice_whole _ _)

/-! ## Semaphores -/

/-- A semaphore of the protocol: the barrier's (`none`), or of a direction, sending or receiving, of a hop and a half. -/
abbrev Q : Type := Bool × Bool × Fin 8 × Fin 2

/-- The barrier semaphore. -/
abbrev barS : Sem sig := (SemArray.scalar (sig.barrier 0 rfl) : Sems sig S_).sem

/-- The semaphore named by `q`. -/
abbrev qsem (q : Q) : DmaSem sig := semAt (sems q.1 q.2.1) q.2.2.1 q.2.2.2

/-- The places of the semaphores: each array has its sixteen in a row. -/
theorem qsem_val : ∀ q : Q, (qsem q).val = 5 + 32 * q.1.toNat + 16 * q.2.1.toNat + 2 * q.2.2.1.val + q.2.2.2.val := by
  decide +kernel

theorem qsem_injective : Function.Injective qsem := fun q q' h => by
  have h := congrArg Fin.val h
  rw [qsem_val, qsem_val] at h
  obtain ⟨l, r, k, p⟩ := q
  obtain ⟨l', r', k', p'⟩ := q'
  have := p.isLt; have := p'.isLt; have := k.isLt; have := k'.isLt
  cases l <;> cases l' <;> cases r <;> cases r' <;> simp only [Bool.toNat_true, Bool.toNat_false] at h <;>
    first
    | exact absurd h (by omega)
    | (have e1 : k = k' := Fin.ext (by omega)
       have e2 : p = p' := Fin.ext (by omega)
       subst e1; subst e2; rfl)

/-- A cell of the protocol on a device: its barrier's, or one of its transfers'. -/
abbrev csem : Option Q → SemLoc sig
  | none => .reg barS
  | some q => .dma (qsem q)

theorem csem_injective : Function.Injective csem := by
  rintro (_ | q) (_ | q') h
  · rfl
  · cases h
  · cases h
  · exact congrArg some (qsem_injective (SemLoc.dma.inj h))

abbrev kcell (ck : Dev nD × Option Q) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : k = k' := csem_injective (congrArg Prod.snd h)
  subst h1; subst h2; rfl

/-- The barrier cell of device `c`. -/
abbrev barCell (c : Dev nD) : GSem nD τ sig := kcell (c, none)
/-- The cell device `c` learns on that its transfer has left. -/
abbrev sendCell (l : Bool) (h : Fin 8) (p : Fin 2) (c : Dev nD) : GSem nD τ sig := kcell (c, some (l, false, h, p))
/-- The cell device `c` learns on that a transfer has arrived. -/
abbrev recvCell (l : Bool) (h : Fin 8) (p : Fin 2) (c : Dev nD) : GSem nD τ sig := kcell (c, some (l, true, h, p))

/-- Which cell of the protocol a semaphore is. -/
def cellOf? (s : SemLoc sig) : Option (Option Q) := Function.partialInv csem s

theorem cellOf?_csem (k : Option Q) : cellOf? (csem k) = some k := Function.partialInv_left csem_injective k

/-- What one piece's transfer credits. -/
def N : ℕ := (piece (buf false) 0 0).view.dmaCredit
theorem N_pos : 0 < N := View.dmaCredit_pos _ (by decide)

theorem N_eq (l : Bool) (k : Fin 9) (p : Fin 2) : (piece (buf l) k p).view.dmaCredit = N := by cases l <;> rfl

end Cert.KernelIdeal.Own
-- ==== Proof.Protocol.lean ====
/- The protocol of the launch: what each piece holds, what each semaphore's payment hands over, what every
   device owes, and in which order the waits may happen. -/
module

public import proofs.«01_k».proof.Proof.Rings
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resource algebra: the pipeline's, and the rings' (a payment is named by a Boolean) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- The rows of `x` that device `c` holds, -/
def xstg (c : Dev nD) : (cc0_stg0_0 : Ref sig .tc).ty.Contents (Elt F) :=
  (win0_0.blk (0 : Fin 1)).view.read (Elt F) (m ((c : Thread nD τ).loc main_arg0))
/-- its columns of the weights, -/
def wstg (c : Dev nD) : (cc0_stg1_0 : Ref sig .tc).ty.Contents (Elt F) :=
  (win0_1.blk (0 : Fin 1)).view.read (Elt F) (m ((c : Thread nD τ).loc main_arg1))
/-- and the two scales. -/
def sxstg (c : Dev nD) : (cc0_stg2_0 : Ref sig .tc).ty.Contents (Elt F) :=
  (win0_2.blk (0 : Fin 1)).view.read (Elt F) (m ((c : Thread nD τ).loc main_arg2))
def swstg (c : Dev nD) : (cc0_stg3_0 : Ref sig .tc).ty.Contents (Elt F) :=
  (win0_3.blk (0 : Fin 1)).view.read (Elt F) (m ((c : Thread nD τ).loc main_arg3))

/-- What direction `l`'s slots on device `c` hold once filled: in slot `k` the rows of the device `k` steps against the direction. -/
def G (l : Bool) (c : Dev nD) : S9x256x4096.Idx → Elt F .fp8e4m3 :=
  fun i => xstg m (org l c (i 0)) (Shape.pair (i 1) (i 2))

/-- Half `p` of slot `k` of direction `l`'s buffer on device `c`, at a share and contents. -/
def pc (l : Bool) (k : Fin 9) (p : Fin 2) (c : Dev nD) (q : PosShare TreeShare) (f : S9x256x4096.Idx → Elt F .fp8e4m3) : sProp 𝕄 :=
  match l with
  | false => ((c : Thread nD τ).loc cc0_scratch0) ↦[pset k p]{q} f
  | true => ((c : Thread nD τ).loc cc0_scratch1) ↦[pset k p]{q} f

omit [FloatOps F] in
instance pc_storable (l : Bool) (k : Fin 9) (p : Fin 2) (c : Dev nD) (q : PosShare TreeShare) (f : S9x256x4096.Idx → Elt F .fp8e4m3) :
    BI.Storable (upEmb : UEmb _ 𝕄) (pc l k p c q f) := by
  cases l <;> (unfold pc; infer_instance)

/-- The same by the views the transfers go through. -/
theorem pc_false (k : Fin 9) (p : Fin 2) (c : Dev nD) (q : PosShare TreeShare) (f : S9x256x4096.Idx → Elt F .fp8e4m3) :
    pc false k p c q f = ((piece (buf false) k p).view.loc (c : Thread nD τ) ↦[(piece (buf false) k p).view.set]{q} f) := by
  rw [piece_set_false]; rfl
theorem pc_true (k : Fin 9) (p : Fin 2) (c : Dev nD) (q : PosShare TreeShare) (f : S9x256x4096.Idx → Elt F .fp8e4m3) :
    pc true k p c q f = ((piece (buf true) k p).view.loc (c : Thread nD τ) ↦[(piece (buf true) k p).view.set]{q} f) := by
  rw [piece_set_true]; rfl

/-- The share a transfer of direction `l` lends its source at. -/
abbrev shr : Bool → PosShare TreeShare
  | false => fullShare.left
  | true => fullShare.right

/-- The pieces of direction `l` on device `c` that transfers land in, at any contents. -/
def land (l : Bool) (c : Dev nD) : sProp 𝕄 :=
  bigSep Finset.univ fun h : Fin 8 => bigSep Finset.univ fun p : Fin 2 =>
    if used l h p then iprop(∃ f, pc l (sl1 h) p c fullShare f) else iprop(emp)

omit [FloatOps F] in
instance land_storable (l : Bool) (c : Dev nD) : BI.Storable (upEmb : UEmb _ 𝕄) (land (F := F) l c) := by
  have h (h : Fin 8) (p : Fin 2) : BI.Storable (upEmb : UEmb _ 𝕄)
      (if used l h p then iprop(∃ f, pc l (sl1 h) p c fullShare f) else iprop(emp) : sProp 𝕄) := by
    split <;> infer_instance
  unfold land; infer_instance

/-! ## The schedule -/

/-- What a payment of the cell `k` of device `c` hands over. The barrier's payment `d` comes from the device direction `d` sends
    to: its landing pieces of that direction. An arrival hands over the piece landed in, filled; a departure the share of the
    source that was lent. -/
def pay (c : Dev nD) (k : Option Q) (d : Bool) : sProp 𝕄 :=
  match k with
  | none => land d (tgt d c)
  | some (l, true, h, p) => pc l (sl1 h) p c fullShare (G m l c)
  | some (l, false, h, p) => pc (sd l h) (sl0 h) p c (shr l) (G m (sd l h) c)

instance pay_storable (c : Dev nD) (k : Option Q) (d : Bool) : BI.Storable (upEmb : UEmb _ 𝕄) (pay m c k d) := by
  obtain _ | ⟨l, r, h, p⟩ := k
  · exact land_storable _ _
  · cases r <;> exact pc_storable _ _ _ _ _ _

/-- The payments of a cell in its only round: both neighbours' for a barrier; one for a transfer there is. -/
def dut (k : Option Q) : Finset Bool :=
  match k with
  | none => Finset.univ
  | some (l, _, h, p) => if used l h p then {false} else ∅

def ringRd : Rounds.Schedule (GSem nD τ sig) Bool 𝕄 where
  duties g r := if r = 0 ∧ g.1.2 = .tc then (cellOf? g.2).elim ∅ dut else ∅
  unitless _ := False
  amount g _ _ := if g.2 = .reg barS then 1 else N
  payload g _ d := (cellOf? g.2).elim iprop(emp) fun k => pay m g.1.1 k d
  amount_pos g _ _ _ := by
    by_cases h : g.2 = .reg barS
    · rw [if_pos h]; exact Nat.one_pos
    · rw [if_neg h]; exact N_pos

instance ringRd_payload_storable (g : GSem nD τ sig) (r : ℕ) (d : Bool) :
    BI.Storable (upEmb : UEmb _ 𝕄) ((ringRd (F := F) m).payload g r d) := by
  show BI.Storable upEmb ((cellOf? g.2).elim iprop(emp) fun k => pay m g.1.1 k d)
  cases cellOf? g.2 with
  | none => show BI.Storable upEmb iprop(emp); infer_instance
  | some k => exact pay_storable m _ k d

theorem duties_cell (c : Dev nD) (k : Option Q) : (ringRd (F := F) m).duties (kcell (c, k)) 0 = dut k := by
  dsimp only [ringRd]; rw [if_pos ⟨rfl, rfl⟩, cellOf?_csem]; rfl
theorem payload_cell (c : Dev nD) (k : Option Q) (d : Bool) : (ringRd (F := F) m).payload (kcell (c, k)) 0 d = pay m c k d := by
  dsimp only [ringRd]; rw [cellOf?_csem]; rfl
theorem duties_later (g : GSem nD τ sig) : ∀ r, 1 ≤ r → (ringRd (F := F) m).duties g r = ∅ :=
  fun r hr => by dsimp only [ringRd]; rw [if_neg fun h => by omega]
theorem duties_unused (l r : Bool) (h : Fin 8) (p : Fin 2) (c : Dev nD) (hu : ¬ used l h p) :
    ∀ n, 0 ≤ n → (ringRd (F := F) m).duties (kcell (c, some (l, r, h, p))) n = ∅ := fun n _ => by
  cases n with
  | zero => rw [duties_cell]; exact if_neg hu
  | succ n => exact duties_later m _ _ (Nat.succ_le_succ (Nat.zero_le _))
theorem duties_used (l r : Bool) (h : Fin 8) (p : Fin 2) (c : Dev nD) (hu : used l h p) :
    (ringRd (F := F) m).duties (kcell (c, some (l, r, h, p))) 0 = {false} := by
  rw [duties_cell]; exact if_pos hu
theorem amount_bar (c : Dev nD) (d : Bool) : (ringRd (F := F) m).amount (barCell c) 0 d = 1 := by dsimp only [ringRd]; exact if_pos rfl
theorem amount_xfer (c : Dev nD) (q : Q) (d : Bool) : (ringRd (F := F) m).amount (kcell (c, some q)) 0 d = N := by
  dsimp only [ringRd]; exact if_neg (fun h => by cases h)
theorem expect_bar (c : Dev nD) : (ringRd (F := F) m).expect (barCell c) 0 = 2 := by
  unfold Schedule.expect Schedule.amountOf
  rw [duties_cell, Finset.sum_congr rfl fun d _ => amount_bar m c d]; rfl
theorem expect_xfer (l r : Bool) (h : Fin 8) (p : Fin 2) (c : Dev nD) (hu : used l h p) :
    (ringRd (F := F) m).expect (kcell (c, some (l, r, h, p))) 0 = N := by
  unfold Schedule.expect Schedule.amountOf; rw [duties_used m l r h p c hu, Finset.sum_singleton, amount_xfer]

/-- What the wait on a barrier brings: both neighbours' landing pieces. -/
theorem rest_bar (c : Dev nD) : bigSep ((ringRd (F := F) m).duties (barCell c) 0 \ ∅) (fun d => (ringRd (F := F) m).payload (barCell c) 0 d)
    = iprop(land false (tgt false c) ∗ land true (tgt true c)) := by
  rw [Finset.sdiff_empty, duties_cell]
  show bigSep Finset.univ _ = _
  rw [bigSep_univ_eq_bigSepL [false, true] (by decide) (by decide), bigSepL_cons_cons, bigSepL_singleton, payload_cell, payload_cell]
  rfl
/-- What the wait on a transfer's cell brings. -/
theorem rest_xfer (l r : Bool) (h : Fin 8) (p : Fin 2) (c : Dev nD) (hu : used l h p) :
    bigSep ((ringRd (F := F) m).duties (kcell (c, some (l, r, h, p))) 0 \ ∅) (fun d => (ringRd (F := F) m).payload (kcell (c, some (l, r, h, p))) 0 d)
      = pay m c (some (l, r, h, p)) false := by
  rw [Finset.sdiff_empty, duties_used m l r h p c hu, bigSep_singleton, payload_cell]

/-! ## What each device owes; the levels -/

/-- A transfer, by direction, hop and half. -/
abbrev Snd : Type := Bool × Fin 8 × Fin 2

/-- What a transfer of device `c` owes the cell it arrives on. -/
abbrev ot (c : Dev nD) (a : Snd) : CellTallies nD τ sig Unit := tallyAt (recvCell a.1 a.2.1 a.2.2 (tgt a.1 c)) () N

/-- What the transfers of a list owe, the first one to be made last in the sum. -/
def owedL (c : Dev nD) : List Snd → CellTallies nD τ sig Unit
  | [] => 0
  | a :: t => owedL c t + ot c a

/-- The transfers made before the first hop, -/
abbrev sends0 : List Snd := [(false, 0, 0), (true, 0, 1), (false, 0, 1), (true, 0, 0)]
/-- at hop `h`, with `h' = h + 1` the hop they belong to, -/
abbrev sendsAt (h' : Fin 8) (rest : List Snd) : List Snd := (false, h', 0) :: (false, h', 1) :: (true, h', 1) :: (true, h', 0) :: rest
/-- and when `n` hops that send four pieces remain. -/
abbrev sendsLeft : ℕ → List Snd
  | 0 => [(false, 7, 0), (true, 7, 1)]
  | n + 1 => sendsAt ⟨6 - n, by omega⟩ (sendsLeft n)
/-- All of them, in order. -/
abbrev allSends : List Snd := sends0 ++ sendsLeft 6

/-- At launch a device owes all its transfers and a unit to each neighbour's barrier. -/
def O₁ (c : Dev nD) : CellTallies nD τ sig Unit := owedL c allSends + tallyAt (barCell (tgt false c)) () 1
def O₀ (c : Dev nD) : CellTallies nD τ sig Unit := O₁ c + tallyAt (barCell (tgt true c)) () 1

def L (g : GSem nD τ sig) : Finset Unit := if g.1.2 = .tc then {()} else ∅
/-- Barriers at level 1, the arrivals of hop `h` at `2 + h`, everything else at 0. -/
def klv : Option Q → ℕ
  | none => 1
  | some (_, true, h, _) => 2 + h.val
  | some (_, false, _, _) => 0
def lv (g : GSem nD τ sig) (_ : Unit) : ℕ := (cellOf? g.2).elim 0 klv

theorem lv_cell (c : Dev nD) (k : Option Q) : lv (kcell (c, k)) () = klv k := by unfold lv; rw [cellOf?_csem]; rfl

theorem L_of_ne (g : GSem nD τ sig) (h : g.1.2 ≠ .tc) : L g = ∅ := if_neg h
theorem L_tc (c : Dev nD) (sm : SemLoc sig) : L ((c : Thread nD τ), sm) = {()} := if_pos rfl

theorem tallyAt_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem owedL_pos (c : Dev nD) (t : List Snd) {g : GSem nD τ sig} {u : Unit} (h : 0 < owedL c t g u) :
    ∃ a ∈ t, g = recvCell a.1 a.2.1 a.2.2 (tgt a.1 c) := by
  induction t with
  | nil => exact absurd h (Nat.lt_irrefl 0)
  | cons a t ih =>
    unfold owedL at h
    rw [Pi.add_apply, Finsupp.add_apply] at h
    rcases Nat.eq_zero_or_pos (owedL c t g u) with h0 | h0
    · rw [h0, Nat.zero_add] at h
      exact ⟨a, List.mem_cons_self, tallyAt_pos h⟩
    · obtain ⟨b, hb, e⟩ := ih h0
      exact ⟨b, List.mem_cons_of_mem _ hb, e⟩

/-- A wait below the arrivals still owed. -/
theorem mayWait_list (c : Dev nD) (sm : SemLoc sig) (t : List Snd) (n : ℕ) (h1 : lv ((c : Thread nD τ), sm) () ≤ n)
    (h2 : ∀ a ∈ t, n < 2 + a.2.1.val) : (levAts L lv : sProp 𝕄) ⊢ MayWait (c : Thread nD τ) sm () (owedL c t) :=
  MayOwe.of_cut (L := L) (lev := lv) n (fun p hp => by rw [Finset.mem_singleton.mp hp, L_tc]; exact Finset.mem_singleton_self _)
    (fun g u hg => by obtain ⟨a, ha, rfl⟩ := owedL_pos c t hg; exact Finset.mem_singleton_self _)
    (fun p hp => by rw [Finset.mem_singleton.mp hp]; exact h1)
    (fun g u hg => by
      obtain ⟨a, ha, rfl⟩ := owedL_pos c t hg
      rw [show lv (recvCell a.1 a.2.1 a.2.2 (tgt a.1 c)) u = klv (some (a.1, true, a.2.1, a.2.2)) from lv_cell _ _]
      exact h2 a ha)

theorem O₀_pos {c : Dev nD} {g : GSem nD τ sig} {u : Unit} (h : 0 < O₀ c g u) : ∃ d k, g = kcell (d, k) ∧ 0 < klv k := by
  unfold O₀ O₁ at h
  rw [Pi.add_apply, Finsupp.add_apply, Pi.add_apply, Finsupp.add_apply] at h
  rcases Nat.eq_zero_or_pos (owedL c allSends g u) with h0 | h0
  · rw [h0, Nat.zero_add] at h
    rcases Nat.eq_zero_or_pos ((tallyAt (barCell (tgt false c)) () 1 : CellTallies nD τ sig Unit) g u) with h1 | h1
    · rw [h1, Nat.zero_add] at h
      exact ⟨_, none, tallyAt_pos h, Nat.one_pos⟩
    · exact ⟨_, none, tallyAt_pos h1, Nat.one_pos⟩
  · obtain ⟨a, -, e⟩ := owedL_pos c _ h0
    exact ⟨_, _, e, by show 0 < 2 + _; omega⟩

/-- The staging waits come before everything. -/
theorem mayWait_stage (c : Dev nD) (q : DmaSem sig) (hq : cellOf? (.dma q) = none) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by obtain ⟨d, k, rfl, -⟩ := O₀_pos hg; exact Finset.mem_singleton_self _)
      (fun p hp => by rw [Finset.mem_singleton.mp hp]; unfold lv; rw [show cellOf? _ = none from hq]; exact Nat.le_refl 0)
      (fun g u hg => by obtain ⟨d, k, rfl, hk⟩ := O₀_pos hg; rw [lv_cell]; exact hk)
  · rw [MayWait_zero]; iintro -; iempintro

end Cert.KernelIdeal.Own
-- ==== Proof.Steps.lean ====
/- One step of the protocol at a time: a transfer sent, a transfer received, a transfer known to have left. -/
module

public import proofs.«01_k».proof.Proof.Protocol

@[expose] public section

set_option maxRecDepth 8000

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (nm : Dev nD × Option Q → ℕ)

abbrev 𝒱₀ : Variants := Variants.none

/-- The weakest precondition of a program on device `c`. -/
abbrev wpc (c : Dev nD) {α : Type} (p : Prog (TpuEff nD τ sig (Elt F) Λ₀ .tc) α) (K : α → sProp 𝕄) : sProp 𝕄 :=
  wp frame (wpE (defs₀ (F := F)) 𝒱₀ (c : Thread nD τ) none) Set.univ p K

/-! ## What every device knows, and what it owes -/

/-- Every cell's invariant, under the name it was allocated at, and that its round is reached; and the levels. -/
def env : sProp 𝕄 :=
  iprop((bigSep Finset.univ fun ck : Dev nD × Option Q => iprop(cellInv ER (ringRd m) (nm ck) (kcell ck) ∗ reached ER (kcell ck) 0)) ∗ levAts L lv)

instance env_persistent : BI.Persistent (env m nm) := by unfold env; infer_instance

theorem env_cell (ck : Dev nD × Option Q) : env m nm ⊢ iprop(cellInv ER (ringRd m) (nm ck) (kcell ck) ∗ reached ER (kcell ck) 0) := by
  have h : (bigSep Finset.univ fun ck : Dev nD × Option Q => iprop(cellInv ER (ringRd m) (nm ck) (kcell ck) ∗ reached ER (kcell ck) 0) : sProp 𝕄)
      ⊢ iprop(cellInv ER (ringRd m) (nm ck) (kcell ck) ∗ reached ER (kcell ck) 0) := bigSep_elim (Finset.mem_univ ck)
  unfold env
  iintro ⟨H, -⟩
  iapply h; iexact H

theorem env_lev : env m nm ⊢ (levAts L lv : sProp 𝕄) := by
  unfold env
  iintro ⟨-, H⟩
  iexact H

/-- Device `c` owes `O`, whatever it has waited for. -/
def ow (c : Dev nD) (O : CellTallies nD τ sig Unit) : sProp 𝕄 := iprop(∃ W, owes (c : Thread nD τ) O W)

/-! ## The parts a transfer needs -/

/-- To receive: the credit of the arrival and the position on its cell. -/
def RB (l : Bool) (h : Fin 8) (p : Fin 2) (c : Dev nD) : sProp 𝕄 :=
  iprop(cred (tallyAt (recvCell l h p c) () N) ∗ atPos ER (recvCell l h p c) 0 ∅ 0)

/-- To send: the piece to land in, the right to pay both cells, the position on the cell of departure. -/
def SB (l : Bool) (h : Fin 8) (p : Fin 2) (c : Dev nD) : sProp 𝕄 :=
  iprop((∃ f, pc l (sl1 h) p (tgt l c) fullShare f) ∗ dutyTok ER (sendCell l h p c) 0 false
    ∗ dutyTok ER (recvCell l h p (tgt l c)) 0 false ∗ atPos ER (sendCell l h p c) 0 ∅ 0)

/-- Once sent: the credit of the departure and the position on its cell. -/
def SD (l : Bool) (h : Fin 8) (p : Fin 2) (c : Dev nD) : sProp 𝕄 :=
  iprop(cred (tallyAt (sendCell l h p c) () N) ∗ atPos ER (sendCell l h p c) 0 ∅ 0)

/-- The piece received, filled. -/
abbrev got (l : Bool) (h : Fin 8) (p : Fin 2) (c : Dev nD) : sProp 𝕄 := pc l (sl1 h) p c fullShare (G m l c)

/-- The share of a source that a transfer of direction `l` at hop `h` borrows. -/
abbrev lent (l : Bool) (h : Fin 8) (p : Fin 2) (c : Dev nD) : sProp 𝕄 := pc (sd l h) (sl0 h) p c (shr l) (G m (sd l h) c)

/-- A device and its share of a transfer agree about the rows: what is written on the neighbour is what is to lie there. -/
theorem G_land (l : Bool) (h : Fin 8) (c : Dev nD) (i j : S9x256x4096.Idx) (hi : (i 0).val = h.val) (hj : (j 0).val = h.val + 1)
    (h1 : (i 1).val = (j 1).val) (h2 : (i 2).val = (j 2).val) : G m (sd l h) c i = G m l (tgt l c) j := by
  unfold G
  have e0 : org (sd l h) c (i 0) = org l (tgt l c) (j 0) := by
    have ei : i 0 = (sl0 h) := Fin.ext hi
    have ej : j 0 = (sl1 h) := Fin.ext hj
    rw [ei, ej, org_tgt]
    by_cases hz : h.val = 0
    · have : (sl0 h) = 0 := Fin.ext hz
      rw [this, org_zero, org_zero]
    · rw [show sd l h = l from if_neg hz]
  have e1 : i 1 = j 1 := Fin.ext h1
  have e2 : i 2 = j 2 := Fin.ext h2
  rw [e0, e1, e2]

/-- Where an element of a piece lies in the buffer. -/
theorem piece_place (k : Fin 9) (p : Fin 2) (j : S1x128x4096.Idx) :
    ((pieceRect k p).emb j 0).val = k.val ∧ ((pieceRect k p).emb j 1).val = 128 * p.val + (j 1).val ∧ ((pieceRect k p).emb j 2).val = (j 2).val := by
  have h0 : (j 0).val < 1 := (j 0).isLt
  refine ⟨?_, ?_, ?_⟩ <;> rw [Rect.emb_apply]
  · show k.val + 1 * (j 0).val = _; omega
  · show 128 * p.val + 1 * (j 1).val = _; omega
  · show 0 + 1 * (j 2).val = _; omega

/-- What a transfer between two pieces writes: the row and column of the source at the row and column of the destination. -/
theorem landed_ff (k k' : Fin 9) (p : Fin 2) (f g g' : S9x256x4096.Idx → Elt F .fp8e4m3)
    (h : ∀ x : S1x128x4096.Idx, g ((pieceRect k p).emb x) = g' ((pieceRect k' p).emb x)) (c : Dev nD) :
    ((piece (buf false) k' p).view.loc (c : Thread nD τ) ↦[(piece (buf false) k' p).view.set]{fullShare}
        ((piece (buf false) k' p).view.write (Elt F) f ((piece (buf false) k p).view.read (Elt F) g) Finset.univ) : sProp 𝕄)
      ⊢ pc false k' p c fullShare g' := by
  rw [pc_false]
  refine Entails.of_eq (pointsTo_congr fun i hi => ?_)
  obtain ⟨x, -, rfl⟩ := Finset.mem_map.mp hi
  rw [View.write_emb_of_mem _ _ (Finset.mem_univ x)]
  exact h (Shape.reshapeEquiv _ x)

theorem landed_ft (k k' : Fin 9) (p : Fin 2) (f g g' : S9x256x4096.Idx → Elt F .fp8e4m3)
    (h : ∀ x : S1x128x4096.Idx, g ((pieceRect k p).emb x) = g' ((pieceRect k' p).emb x)) (c : Dev nD) :
    ((piece (buf true) k' p).view.loc (c : Thread nD τ) ↦[(piece (buf true) k' p).view.set]{fullShare}
        ((piece (buf true) k' p).view.write (Elt F) f ((piece (buf false) k p).view.read (Elt F) g) Finset.univ) : sProp 𝕄)
      ⊢ pc true k' p c fullShare g' := by
  rw [pc_true]
  refine Entails.of_eq (pointsTo_congr fun i hi => ?_)
  obtain ⟨x, -, rfl⟩ := Finset.mem_map.mp hi
  rw [View.write_emb_of_mem _ _ (Finset.mem_univ x)]
  exact h (Shape.reshapeEquiv _ x)

theorem landed_tt (k k' : Fin 9) (p : Fin 2) (f g g' : S9x256x4096.Idx → Elt F .fp8e4m3)
    (h : ∀ x : S1x128x4096.Idx, g ((pieceRect k p).emb x) = g' ((pieceRect k' p).emb x)) (c : Dev nD) :
    ((piece (buf true) k' p).view.loc (c : Thread nD τ) ↦[(piece (buf true) k' p).view.set]{fullShare}
        ((piece (buf true) k' p).view.write (Elt F) f ((piece (buf true) k p).view.read (Elt F) g) Finset.univ) : sProp 𝕄)
      ⊢ pc true k' p c fullShare g' := by
  rw [pc_true]
  refine Entails.of_eq (pointsTo_congr fun i hi => ?_)
  obtain ⟨x, -, rfl⟩ := Finset.mem_map.mp hi
  rw [View.write_emb_of_mem _ _ (Finset.mem_univ x)]
  exact h (Shape.reshapeEquiv _ x)

/-- Sending through any two views, given what the two payments hand over. -/
theorem send_views (c c' : Dev nD) (src dst : Memref sig .tc .vmem S128x4096 .fp8e4m3) (qs qr : Q)
    (hsc : dst.view.ref.isScScratch = false) (hsrc : src.view.WordExact) (hdst : dst.view.WordExact)
    (hsem : DmaTarget.Typed .vmem (.dma (qsem qr)) (.remote (c' : Thread nD τ) dst (.dma (qsem qs)) hsc))
    (hd₁ : false ∈ (ringRd (F := F) m).duties (kcell (c, some qs)) 0) (hd₂ : false ∈ (ringRd (F := F) m).duties (kcell (c', some qr)) 0)
    (hN : dst.view.dmaCredit = N) {q : PosShare TreeShare} (fs : Buf (Elt F) (src.view.loc (c : Thread nD τ))) (fd : Buf (Elt F) (dst.view.loc (c' : Thread nD τ)))
    (hp₁ : (src.view.loc (c : Thread nD τ) ↦[src.view.set]{q} fs) ⊢ (ringRd m).payload (kcell (c, some qs)) 0 false)
    (hp₂ : (dst.view.loc (c' : Thread nD τ) ↦[dst.view.set]{fullShare} (dst.view.write (Elt F) fd (src.view.read (Elt F) fs) Finset.univ))
      ⊢ (ringRd m).payload (kcell (c', some qr)) 0 false)
    (O : CellTallies nD τ sig Unit) (W : Waits sig Unit) (K : PUnit → sProp 𝕄) (κ₁ κ₂ : ℕ) :
    iprop(cellInv ER (ringRd m) κ₁ (kcell (c, some qs)) ∗ cellInv ER (ringRd m) κ₂ (kcell (c', some qr))
        ∗ (src.view.loc (c : Thread nD τ) ↦[src.view.set]{q} fs) ∗ (dst.view.loc (c' : Thread nD τ) ↦[dst.view.set]{fullShare} fd)
        ∗ owes (c : Thread nD τ) (O + tallyAt (kcell (c', some qr)) () N) W
        ∗ dutyTok ER (kcell (c, some qs)) 0 false ∗ reached ER (kcell (c, some qs)) 0
        ∗ dutyTok ER (kcell (c', some qr)) 0 false ∗ reached ER (kcell (c', some qr)) 0)
      ⊢ iprop(((cred (tallyAt (kcell (c, some qs)) () N) ∗ owes (c : Thread nD τ) O W) -∗ K ⟨⟩)
        -∗ wpc c (Prog.lift (.enqueueDma src (.remote (c' : Thread nD τ) dst (.dma (qsem qs)) hsc) (.dma (qsem qr)) hsrc hdst hsem)) K) := by
  iintro H HK
  iapply (Rounds.wp_send_pointsTo 𝒱₀ ER (ringRd m) (c : Thread nD τ) none (c' := (c' : Thread nD τ)) (src := src) (dst := dst) (sS := .dma (qsem qs)) (sem := .dma (qsem qr))
    (r₁ := 0) (r₂ := 0) (d₁ := false) (d₂ := false) (fs := fs) (fd := fd)
    hd₁ hd₂ () () N hN (amount_xfer m c _ false) (amount_xfer m c' _ false) O rfl (W := W) hp₁ hp₂) $$ H
  iintro H
  rw [wp_ret]; imodintro
  iapply HK; iexact H

/-- Sending one piece, the cells' invariants at hand. -/
theorem send_core (l b : Bool) (h : Fin 8) (p : Fin 2) (c : Dev nD) (hc : l = false ∧ b = false ∨ l = true ∧ b = false ∨ l = true ∧ b = true)
    (hd₁ : false ∈ (ringRd (F := F) m).duties (sendCell l h p c) 0) (hd₂ : false ∈ (ringRd (F := F) m).duties (recvCell l h p (tgt l c)) 0)
    (hp₁ : (ringRd m).payload (sendCell l h p c) 0 false = pc b (sl0 h) p c (shr l) (G m b c))
    (hp₂ : (ringRd m).payload (recvCell l h p (tgt l c)) 0 false = pc l (sl1 h) p (tgt l c) fullShare (G m l (tgt l c)))
    (hG : ∀ i j : S9x256x4096.Idx, (i 0).val = h.val → (j 0).val = h.val + 1 → (i 1).val = (j 1).val → (i 2).val = (j 2).val → G m b c i = G m l (tgt l c) j)
    (f : S9x256x4096.Idx → Elt F .fp8e4m3) (O : CellTallies nD τ sig Unit) (W : Waits sig Unit) (K : PUnit → sProp 𝕄) :
    iprop(cellInv ER (ringRd m) (nm (c, some (l, false, h, p))) (sendCell l h p c)
        ∗ cellInv ER (ringRd m) (nm (tgt l c, some (l, true, h, p))) (recvCell l h p (tgt l c))
        ∗ pc b (sl0 h) p c (shr l) (G m b c) ∗ pc l (sl1 h) p (tgt l c) fullShare f
        ∗ owes (c : Thread nD τ) (O + ot c (l, h, p)) W
        ∗ dutyTok ER (sendCell l h p c) 0 false ∗ reached ER (sendCell l h p c) 0
        ∗ dutyTok ER (recvCell l h p (tgt l c)) 0 false ∗ reached ER (recvCell l h p (tgt l c)) 0)
      ⊢ iprop(((cred (tallyAt (sendCell l h p c) () N) ∗ owes (c : Thread nD τ) O W) -∗ K ⟨⟩)
        -∗ wpc c (send (buf b) (buf_whole b) (buf l) (buf_whole l) (sems l false) (sems l true) (tgt l c) (sl0 h) (sl1 h) h p) K) := by
  have landed (x : S1x128x4096.Idx) : G m b c ((pieceRect (sl0 h) p).emb x) = G m l (tgt l c) ((pieceRect (sl1 h) p).emb x) := by
    obtain ⟨a0, a1, a2⟩ := piece_place (sl0 h) p x
    obtain ⟨b0, b1, b2⟩ := piece_place (sl1 h) p x
    exact hG _ _ a0 b0 (a1.trans b1.symm) (a2.trans b2.symm)
  rcases hc with ⟨rfl, rfl⟩ | ⟨rfl, rfl⟩ | ⟨rfl, rfl⟩
  · have hpay := landed_ff (sl0 h) (sl1 h) p f _ _ landed (tgt false c)
    rw [← hp₂] at hpay
    have hlent := Entails.of_eq (pc_false (F := F) (sl0 h) p c (shr false) (G m false c)).symm
    rw [← hp₁] at hlent
    rw [pc_false, pc_false]
    exact send_views m c (tgt false c) (piece (buf false) (sl0 h) p) (piece (buf false) (sl1 h) p)
      (false, false, h, p) (false, true, h, p) rfl (piece_wordExact (buf false) (buf_whole false) _ p) (piece_wordExact (buf false) (buf_whole false) _ p)
      ⟨⟨rfl, Or.inl rfl⟩, trivial⟩ hd₁ hd₂ (N_eq false _ p) (G m false c) f hlent hpay O W K _ _
  · have hpay := landed_ft (sl0 h) (sl1 h) p f _ _ landed (tgt true c)
    rw [← hp₂] at hpay
    have hlent := Entails.of_eq (pc_false (F := F) (sl0 h) p c (shr true) (G m false c)).symm
    rw [← hp₁] at hlent
    rw [pc_false, pc_true]
    exact send_views m c (tgt true c) (piece (buf false) (sl0 h) p) (piece (buf true) (sl1 h) p)
      (true, false, h, p) (true, true, h, p) rfl (piece_wordExact (buf false) (buf_whole false) _ p) (piece_wordExact (buf true) (buf_whole true) _ p)
      ⟨⟨rfl, Or.inl rfl⟩, trivial⟩ hd₁ hd₂ (N_eq true _ p) (G m false c) f hlent hpay O W K _ _
  · have hpay := landed_tt (sl0 h) (sl1 h) p f _ _ landed (tgt true c)
    rw [← hp₂] at hpay
    have hlent := Entails.of_eq (pc_true (F := F) (sl0 h) p c (shr true) (G m true c)).symm
    rw [← hp₁] at hlent
    rw [pc_true, pc_true]
    exact send_views m c (tgt true c) (piece (buf true) (sl0 h) p) (piece (buf true) (sl1 h) p)
      (true, false, h, p) (true, true, h, p) rfl (piece_wordExact (buf true) (buf_whole true) _ p) (piece_wordExact (buf true) (buf_whole true) _ p)
      ⟨⟨rfl, Or.inl rfl⟩, trivial⟩ hd₁ hd₂ (N_eq true _ p) (G m true c) f hlent hpay O W K _ _

/-- Sending one piece. -/
theorem wp_send_piece (l b : Bool) (h : Fin 8) (p : Fin 2) (c n : Dev nD) (hn : n = tgt l c) (hb : b = sd l h) (hu : used l h p)
    (O : CellTallies nD τ sig Unit) (K : PUnit → sProp 𝕄) :
    iprop(env m nm ∗ lent m l h p c ∗ SB l h p c ∗ ow c (O + ot c (l, h, p)))
      ⊢ iprop(((SD l h p c ∗ ow c O) -∗ K ⟨⟩)
        -∗ wpc c (send (buf b) (buf_whole b) (buf l) (buf_whole l) (sems l false) (sems l true) n (sl0 h) (sl1 h) h p) K) := by
  subst hn
  have hd₁ : false ∈ (ringRd (F := F) m).duties (sendCell l h p c) 0 := by
    rw [duties_used m l false h p c hu]; exact Finset.mem_singleton_self _
  have hd₂ : false ∈ (ringRd (F := F) m).duties (recvCell l h p (tgt l c)) 0 := by
    rw [duties_used m l true h p (tgt l c) hu]; exact Finset.mem_singleton_self _
  have hp₁ : (ringRd (F := F) m).payload (sendCell l h p c) 0 false = lent m l h p c := payload_cell m c (some (l, false, h, p)) false
  have hp₂ : (ringRd (F := F) m).payload (recvCell l h p (tgt l c)) 0 false = got m l h p (tgt l c) :=
    payload_cell m (tgt l c) (some (l, true, h, p)) false
  have hG := G_land m l h c
  have hc : l = false ∧ b = false ∨ l = true ∧ b = false ∨ l = true ∧ b = true := by
    cases l
    · left; exact ⟨rfl, hb.trans (by unfold sd; split <;> rfl)⟩
    · right; cases b
      · exact .inl ⟨rfl, rfl⟩
      · exact .inr ⟨rfl, rfl⟩
  unfold lent at hp₁ ⊢
  rw [← hb] at hp₁ hG ⊢
  unfold ow SB SD
  iintro ⟨#HE, Hsrc, ⟨⟨%f, Hdst⟩, HtS, HtR, HatS⟩, ⟨%W, HO⟩⟩ HK
  ihave #HS := (env_cell m nm (c, some (l, false, h, p))) $$ HE
  ihave #HR := (env_cell m nm (tgt l c, some (l, true, h, p))) $$ HE
  icases HS with ⟨HIS, HrS⟩
  icases HR with ⟨HIR, HrR⟩
  iapply (send_core m nm l b h p c hc hd₁ hd₂ hp₁ hp₂ hG f O W K) $$ [Hsrc Hdst HtS HtR HO]
  · isplitr; · iexact HIS
    isplitr; · iexact HIR
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hcr, HO⟩
  iapply HK
  isplitl [Hcr HatS]
  · isplitl [Hcr]; · iexact Hcr
    iexact HatS
  iexists W; iexact HO

/-- Receiving one piece: the wait, after which the cell is closed. -/
theorem wp_recv_piece (l b : Bool) (h : Fin 8) (p : Fin 2) (c : Dev nD) (hu : used l h p) (O : CellTallies nD τ sig Unit)
    (hO : (levAts L lv : sProp 𝕄) ⊢ MayWait (c : Thread nD τ) (.dma (qsem (l, true, h, p))) () O) (K : PUnit → sProp 𝕄) :
    iprop(env m nm ∗ RB l h p c ∗ ow c O)
      ⊢ iprop(((semVal (recvCell l h p c) 0 ∗ got m l h p c ∗ ow c O) -∗ K ⟨⟩)
        -∗ wpc c (await (buf b) (buf_whole b) (buf l) (buf_whole l) (sems l true) (sl0 h) (sl1 h) h p) K) := by
  unfold ow RB
  iintro ⟨#HE, ⟨Hcr, Hat⟩, ⟨%W, HO⟩⟩ HK
  ihave #HR := (env_cell m nm (c, some (l, true, h, p))) $$ HE
  icases HR with ⟨HI, -⟩
  iapply (Rounds.wp_wait_rest_token 𝒱₀ ER (ringRd m) (c : Thread nD τ) none (κ := nm (c, some (l, true, h, p))) (sm := .dma (qsem (l, true, h, p)))
      (wpE_waitDma2_eq 𝒱₀ (c : Thread nD τ) none Set.univ) (Set.mem_univ _) () (O := O) (W := W) (k' := (piece (buf l) (sl1 h) p).view.dmaCredit) (R := 0) (m := 0) (T := ∅)
      ((Nat.zero_add _).trans ((N_eq l _ p).trans (expect_xfer m l true h p c hu).symm))) $$ [Hcr HO Hat]
  · isplitr; · iexact HI
    isplitl [Hcr]; · rw [N_eq l (sl1 h) p]; iexact Hcr
    isplitl [HO]; · iexact HO
    isplitr; · have hE := (env_lev m nm).trans hO; iapply hE; iexact HE
    iexact Hat
  iintro ⟨HO, Hat, -, Hpay⟩
  ihave Hp := (Entails.of_eq ((rest_xfer m l true h p c hu).trans (show pay m c (some (l, true, h, p)) false = got m l h p c from rfl))) $$ Hpay
  imod (Rounds.cell_close ER (ringRd m) (Set.mem_univ (nm (c, some (l, true, h, p)))) (fun h => h) (R := 0 + 1) (duties_later m (recvCell l h p c))) $$ [Hat] with Hz
  · isplitr; · iexact HI
    iexact Hat
  rw [wp_ret]; imodintro
  iapply HK
  isplitl [Hz]; · iexact Hz
  isplitl [Hp]; · iexact Hp
  iexists _; iexact HO

/-- Waiting until a piece has left: what was lent comes back, and the cell is closed. -/
theorem wp_sent_piece (l b : Bool) (h : Fin 8) (p : Fin 2) (c : Dev nD) (hu : used l h p) (K : PUnit → sProp 𝕄) :
    iprop(env m nm ∗ SD l h p c ∗ ow c 0)
      ⊢ iprop(((semVal (sendCell l h p c) 0 ∗ lent m l h p c ∗ ow c 0) -∗ K ⟨⟩)
        -∗ wpc c (await (buf l) (buf_whole l) (buf b) (buf_whole b) (sems l false) (sl1 h) (sl0 h) h p) K) := by
  unfold ow SD
  iintro ⟨#HE, ⟨Hcr, Hat⟩, ⟨%W, HO⟩⟩ HK
  ihave #HR := (env_cell m nm (c, some (l, false, h, p))) $$ HE
  icases HR with ⟨HI, -⟩
  iapply (Rounds.wp_wait_rest_token 𝒱₀ ER (ringRd m) (c : Thread nD τ) none (κ := nm (c, some (l, false, h, p))) (sm := .dma (qsem (l, false, h, p)))
      (wpE_waitDma2_eq 𝒱₀ (c : Thread nD τ) none Set.univ) (Set.mem_univ _) () (O := 0) (W := W) (k' := (piece (buf b) (sl0 h) p).view.dmaCredit) (R := 0) (m := 0) (T := ∅)
      ((Nat.zero_add _).trans ((N_eq b _ p).trans (expect_xfer m l false h p c hu).symm))) $$ [Hcr HO Hat]
  · isplitr; · iexact HI
    isplitl [Hcr]; · rw [N_eq b (sl0 h) p]; iexact Hcr
    isplitl [HO]; · iexact HO
    isplitr; · rw [MayWait_zero]; iempintro
    iexact Hat
  iintro ⟨HO, Hat, -, Hpay⟩
  ihave Hp := (Entails.of_eq ((rest_xfer m l false h p c hu).trans (show pay m c (some (l, false, h, p)) false = lent m l h p c from rfl))) $$ Hpay
  imod (Rounds.cell_close ER (ringRd m) (Set.mem_univ (nm (c, some (l, false, h, p)))) (fun h => h) (R := 0 + 1) (duties_later m (sendCell l h p c))) $$ [Hat] with Hz
  · isplitr; · iexact HI
    iexact Hat
  rw [wp_ret]; imodintro
  iapply HK
  isplitl [Hz]; · iexact Hz
  isplitl [Hp]; · iexact Hp
  iexists _; iexact HO

end Cert.KernelIdeal.Own
-- ==== Proof.Blocks.lean ====
/- The blocks of the product: what the output holds, row group by row group, and the program that computes one block. -/
module

public import proofs.«01_k».proof.Proof.Steps

@[expose] public section

set_option maxRecDepth 8000

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-! ## What the output is to hold -/

/-- The one index of a scale. -/
abbrev i0 : S1.Idx := fun a => ⟨0, by fin_cases a; decide⟩

/-- The scale of device `c`: the product of the two it was given. -/
def scl (c : Dev nD) : F .f32 := k0_pay1 (sxstg m c i0) (swstg m c i0)

/-- The rows of device `d` as a slot, and half of them as a piece. -/
def slotV (d : Dev nD) : S1x256x4096.Idx → Elt F .fp8e4m3 := fun j => xstg m d (Shape.pair (j 1) (j 2))
def halfV (d : Dev nD) (p : Fin 2) : S1x128x4096.Idx → Elt F .fp8e4m3 := fun j =>
  xstg m d (Shape.pair ⟨128 * p.val + (j 1).val, by have h : (j 1).val < 128 := (j 1).isLt; have := p.isLt; show _ < 256; omega⟩ (j 2))

/-- The device whose rows row `r` of the product comes from, and the row group. -/
abbrev devOf (i : S4096x128.Idx) : Dev nD := ⟨(i 0).val / 256, by have h : (i 0).val < 4096 := (i 0).isLt; show _ < 16; omega⟩
abbrev grpOf (i : S4096x128.Idx) : Fin 32 := ⟨(i 0).val / 128, by have h : (i 0).val < 4096 := (i 0).isLt; omega⟩

/-- The element `i` within its block of 256 rows, and within its block of 128. -/
abbrev in256 (i : S4096x128.Idx) : S256x128.Idx := Shape.pair ⟨(i 0).val % 256, Nat.mod_lt _ (by decide)⟩ (i 1)
abbrev in128 (i : S4096x128.Idx) : S128x128.Idx := Shape.pair ⟨(i 0).val % 128, Nat.mod_lt _ (by decide)⟩ (i 1)

/-- What device `c` is to compute: its own rows from the staged block, the opposite device's in two halves, all others whole. -/
def outAt (c : Dev nD) : S4096x128.Idx → F .f32 := fun i =>
  if devOf i = c then k0_pay4 (scl m c) (xstg m c) (wstg m c) (in256 i)
  else if devOf i = rightBy c 8 then
    k0_pay26 (scl m c) (halfV m (devOf i) ⟨(i 0).val / 128 % 2, Nat.mod_lt _ (by decide)⟩) (wstg m c) (in128 i)
  else k0_pay5 (scl m c) (slotV m (devOf i)) (wstg m c) (in256 i)

/-- The row groups in `D` are computed. -/
def Fill (c : Dev nD) (D : Finset (Fin 32)) (v : S4096x128.Idx → F .f32) : Prop := ∀ i, grpOf i ∈ D → v i = outAt m c i

/-- The output buffer of device `c`, the row groups in `D` computed. -/
def outP (c : Dev nD) (D : Finset (Fin 32)) : sProp 𝕄 :=
  iprop(∃ v : S4096x128.Idx → F .f32, ⌜Fill m c D v⌝ ∗ ((c : Thread nD τ).loc cc0_stg4_0) ↦{fullShare} v)

/-- The weights of device `c`. -/
def wP (c : Dev nD) : sProp 𝕄 := ((c : Thread nD τ).loc cc0_stg1_0) ↦{fullShare} (wstg m c)

/-- The two row groups of a device. -/
abbrev both (d : Dev nD) (D : Finset (Fin 32)) : Finset (Fin 32) :=
  insert ⟨2 * d.val, by have : d.val < 16 := d.isLt; omega⟩ (insert ⟨2 * d.val + 1, by have : d.val < 16 := d.isLt; omega⟩ D)

abbrev oM : Memref sig .tc .vmem S4096x128 .f32 := Memref.whole cc0_stg4_0
abbrev wM : Memref sig .tc .vmem S4096x128 .fp8e4m3 := Memref.whole cc0_stg1_0

/-- Writing a block of 256 rows computes the two row groups of its device. -/
theorem fill_256 (c d : Dev nD) (D : Finset (Fin 32)) (v : S4096x128.Idx → F .f32) (w : S256x128.Idx → F .f32)
    (off : Fin 2 → Nat) (hoff : ∀ a, off a + S256x128.size a ≤ S4096x128.size a) (e : off = ![256 * d.val, 0])
    (hw : ∀ i : S4096x128.Idx, devOf i = d → w (in256 i) = outAt m c i) (hv : Fill m c D v) :
    Fill m c (both d D) ((oM.access (Rect.unit (s := S4096x128) off S256x128.size hoff) : View sig .tc _ _ _).write (Elt F) v w Finset.univ) := by
  subst e
  intro i hi
  have h0 : (i 0).val < 4096 := (i 0).isLt
  have h1 : (i 1).val < 128 := (i 1).isLt
  by_cases hd : (i 0).val / 256 = d.val
  · have e : i = (oM.access (Rect.unit (s := S4096x128) ![256 * d.val, 0] S256x128.size hoff) : View sig .tc _ _ _).emb (in256 i) := by
      funext a
      refine Fin.ext ?_
      show _ = ((Rect.unit (s := S4096x128) ![256 * d.val, 0] S256x128.size hoff).emb (in256 i) a).val
      rw [Rect.emb_apply]
      match a with
      | 0 => show (i 0).val = 256 * d.val + 1 * ((i 0).val % 256); omega
      | 1 => show (i 1).val = 0 + 1 * (i 1).val; omega
    rw [← hw i (Fin.ext hd)]
    conv_lhs => rw [e]
    exact View.write_emb_of_mem _ _ (Finset.mem_univ _)
  · rw [View.write_of_not_mem _ _ _ (fun h => ?_)]
    · refine hv i ?_
      rcases Finset.mem_insert.mp hi with h | h
      · exact absurd (show (i 0).val / 128 = 2 * d.val from congrArg Fin.val h) (by omega)
      rcases Finset.mem_insert.mp h with h | h
      · exact absurd (show (i 0).val / 128 = 2 * d.val + 1 from congrArg Fin.val h) (by omega)
      exact h
    · rw [View.setOn_univ, View.set_slice_whole, Rect.mem_set_unit] at h
      have := h 0
      have h2 : 256 * d.val ≤ (i 0).val ∧ (i 0).val < 256 * d.val + 256 := h 0
      omega

/-- Writing a block of 128 rows computes a row group. -/
theorem fill_128 (c : Dev nD) (g : Fin 32) (D : Finset (Fin 32)) (v : S4096x128.Idx → F .f32) (w : S128x128.Idx → F .f32)
    (off : Fin 2 → Nat) (hoff : ∀ a, off a + S128x128.size a ≤ S4096x128.size a) (e : off = ![128 * g.val, 0])
    (hw : ∀ i : S4096x128.Idx, grpOf i = g → w (in128 i) = outAt m c i) (hv : Fill m c D v) :
    Fill m c (insert g D) ((oM.access (Rect.unit (s := S4096x128) off S128x128.size hoff) : View sig .tc _ _ _).write (Elt F) v w Finset.univ) := by
  subst e
  intro i hi
  have h0 : (i 0).val < 4096 := (i 0).isLt
  have h1 : (i 1).val < 128 := (i 1).isLt
  by_cases hd : (i 0).val / 128 = g.val
  · have e : i = (oM.access (Rect.unit (s := S4096x128) ![128 * g.val, 0] S128x128.size hoff) : View sig .tc _ _ _).emb (in128 i) := by
      funext a
      refine Fin.ext ?_
      show _ = ((Rect.unit (s := S4096x128) ![128 * g.val, 0] S128x128.size hoff).emb (in128 i) a).val
      rw [Rect.emb_apply]
      match a with
      | 0 => show (i 0).val = 128 * g.val + 1 * ((i 0).val % 128); omega
      | 1 => show (i 1).val = 0 + 1 * (i 1).val; omega
    rw [← hw i (Fin.ext hd)]
    conv_lhs => rw [e]
    exact View.write_emb_of_mem _ _ (Finset.mem_univ _)
  · rw [View.write_of_not_mem _ _ _ (fun h => ?_)]
    · refine hv i ?_
      rcases Finset.mem_insert.mp hi with h | h
      · exact absurd (congrArg Fin.val h) hd
      exact h
    · rw [View.setOn_univ, View.set_slice_whole, Rect.mem_set_unit] at h
      have h2 : 128 * g.val ≤ (i 0).val ∧ (i 0).val < 128 * g.val + 128 := h 0
      omega

/-! ## Slots as two halves -/

/-- Slot `k` of direction `l`'s buffer. -/
def slotP (l : Bool) (k : Fin 9) (c : Dev nD) (q : PosShare TreeShare) (f : S9x256x4096.Idx → Elt F .fp8e4m3) : sProp 𝕄 :=
  match l with
  | false => ((c : Thread nD τ).loc cc0_scratch0) ↦[sset k]{q} f
  | true => ((c : Thread nD τ).loc cc0_scratch1) ↦[sset k]{q} f

theorem slotP_halves (l : Bool) (k : Fin 9) (c : Dev nD) (q : PosShare TreeShare) (f : S9x256x4096.Idx → Elt F .fp8e4m3) :
    (slotP l k c q f : sProp 𝕄) ⊣⊢ iprop(pc l k 0 c q f ∗ pc l k 1 c q f) := by
  have h := pset_disjoint (k, 0) (k, 1) (fun h => absurd (congrArg Prod.snd h) (show (0 : Fin 2) ≠ 1 by decide))
  cases l
  · unfold slotP pc; rw [sset_eq]; exact pointsTo_union h
  · unfold slotP pc; rw [sset_eq]; exact pointsTo_union h

/-! ## The loads and the store -/

/-- What a slot's load reads: the rows of the device the slot is for. -/
theorem slot_read (l : Bool) (k : Fin 9) (c : Dev nD) (j : S1x256x4096.Idx) : G m l c ((slotRect k).emb j) = slotV m (org l c k) j := by
  have h0 : (j 0).val < 1 := (j 0).isLt
  have e0 : (slotRect k).emb j 0 = k := Fin.ext (by rw [Rect.emb_apply]; show k.val + 1 * (j 0).val = _; omega)
  have e1 : (slotRect k).emb j 1 = j 1 := Fin.ext (by rw [Rect.emb_apply]; show 0 + 1 * (j 1).val = _; omega)
  have e2 : (slotRect k).emb j 2 = j 2 := Fin.ext (by rw [Rect.emb_apply]; show 0 + 1 * (j 2).val = _; omega)
  unfold G slotV
  rw [e0, e1, e2]

theorem half_read (l : Bool) (k : Fin 9) (p : Fin 2) (c : Dev nD) (j : S1x128x4096.Idx) : G m l c ((pieceRect k p).emb j) = halfV m (org l c k) p j := by
  obtain ⟨h0, h1, h2⟩ := piece_place k p j
  have e0 : (pieceRect k p).emb j 0 = k := Fin.ext h0
  have e2 : (pieceRect k p).emb j 2 = j 2 := Fin.ext h2
  have e1 : (pieceRect k p).emb j 1 = ⟨128 * p.val + (j 1).val, by rw [← h1]; exact ((pieceRect k p).emb j 1).isLt⟩ := Fin.ext h1
  unfold G halfV
  rw [e0, e1, e2]
  rfl

theorem wp_load_slot (l : Bool) (k : Fin 9) (c : Dev nD) (q : PosShare TreeShare) (K : (S1x256x4096.Idx → Elt F .fp8e4m3) → sProp 𝕄) :
    slotP l k c q (G m l c) ⊢ iprop((slotP l k c q (G m l c) -∗ K (slotV m (org l c k)))
      -∗ wpc c (Prog.lift (.load (buf l) (slotRect k).toLoadRect (View.loadsAt_vmem h_S1x256x4096))) K) := by
  cases l
  · rw [show ∀ f, (slotP false k c q f : sProp 𝕄) = (((c : Thread nD τ).loc cc0_scratch0) ↦[sset k]{q} f) from fun _ => rfl]
    iintro H HK
    iapply (wp_load 𝒱₀ (c : Thread nD τ) none Set.univ (m := buf false) (show _ = _ from Finset.map_refl).subset) $$ H
    iintro H
    rw [wp_ret, show (buf false).view.readAt (Elt F) (slotRect k).toLoadRect (G m false c) = slotV m (org false c k) from funext fun j => slot_read m false k c j]; imodintro
    iapply HK; iexact H
  · rw [show ∀ f, (slotP true k c q f : sProp 𝕄) = (((c : Thread nD τ).loc cc0_scratch1) ↦[sset k]{q} f) from fun _ => rfl]
    iintro H HK
    iapply (wp_load 𝒱₀ (c : Thread nD τ) none Set.univ (m := buf true) (show _ = _ from Finset.map_refl).subset) $$ H
    iintro H
    rw [wp_ret, show (buf true).view.readAt (Elt F) (slotRect k).toLoadRect (G m true c) = slotV m (org true c k) from funext fun j => slot_read m true k c j]; imodintro
    iapply HK; iexact H

theorem wp_load_half (l : Bool) (k : Fin 9) (p : Fin 2) (c : Dev nD) (q : PosShare TreeShare) (K : (S1x128x4096.Idx → Elt F .fp8e4m3) → sProp 𝕄) :
    pc l k p c q (G m l c) ⊢ iprop((pc l k p c q (G m l c) -∗ K (halfV m (org l c k) p))
      -∗ wpc c (Prog.lift (.load (buf l) (pieceRect k p).toLoadRect (View.loadsAt_vmem h_S1x128x4096))) K) := by
  cases l
  · rw [show ∀ f, (pc false k p c q f : sProp 𝕄) = (((c : Thread nD τ).loc cc0_scratch0) ↦[pset k p]{q} f) from fun _ => rfl]
    iintro H HK
    iapply (wp_load 𝒱₀ (c : Thread nD τ) none Set.univ (m := buf false) (show _ = _ from Finset.map_refl).subset) $$ H
    iintro H
    rw [wp_ret, show (buf false).view.readAt (Elt F) (pieceRect k p).toLoadRect (G m false c) = halfV m (org false c k) p from funext fun j => half_read m false k p c j]; imodintro
    iapply HK; iexact H
  · rw [show ∀ f, (pc true k p c q f : sProp 𝕄) = (((c : Thread nD τ).loc cc0_scratch1) ↦[pset k p]{q} f) from fun _ => rfl]
    iintro H HK
    iapply (wp_load 𝒱₀ (c : Thread nD τ) none Set.univ (m := buf true) (show _ = _ from Finset.map_refl).subset) $$ H
    iintro H
    rw [wp_ret, show (buf true).view.readAt (Elt F) (pieceRect k p).toLoadRect (G m true c) = halfV m (org true c k) p from funext fun j => half_read m true k p c j]; imodintro
    iapply HK; iexact H

theorem zero2 : (![0, 0] : Fin 2 → Nat) = fun _ => 0 := funext fun a => by fin_cases a <;> rfl

theorem wp_load_w (c : Dev nD) (K : (S4096x128.Idx → Elt F .fp8e4m3) → sProp 𝕄) :
    wP m c ⊢ iprop((wP m c -∗ K (wstg m c))
      -∗ wpc c (Prog.lift (.load wM wRect.toLoadRect (View.loadsAt_vmem h_S4096x128))) K) := by
  have e : wM.view.readAt (Elt F) wRect.toLoadRect (wstg m c) = wstg m c := Memref.readAt_unit_zero (Elt F) cc0_stg1_0 zero2 _ _
  unfold wP
  iintro H HK
  iapply (wp_load 𝒱₀ (c : Thread nD τ) none Set.univ (m := wM) (Finset.subset_univ _)) $$ H
  iintro H
  rw [wp_ret, e]; imodintro
  iapply HK; iexact H

theorem wp_load_o (c : Dev nD) (D : Finset (Fin 32)) (r : Rect S4096x128) (hl : oM.view.LoadsAt r.toLoadRect) (K : (r.shape.Idx → Elt F .f32) → sProp 𝕄) :
    outP m c D ⊢ iprop((∀ y, outP m c D -∗ K y) -∗ wpc c (Prog.lift (.load oM r.toLoadRect hl)) K) := by
  unfold outP
  iintro ⟨%v, %hv, H⟩ HK
  iapply (wp_load 𝒱₀ (c : Thread nD τ) none Set.univ (m := oM) (Finset.subset_univ _)) $$ H
  iintro H
  rw [wp_ret]; imodintro
  iapply HK $$ %_
  iexists v
  isplitr; · (ipureintro; exact hv)
  iexact H

theorem wp_store_o (c : Dev nD) (D D' : Finset (Fin 32)) (r : Rect S4096x128) (w : r.shape.Idx → Elt F .f32) (hs : (oM.access r).Stores Finset.univ) (hm : (Finset.univ : Finset r.shape.Idx) = Finset.univ ∨ ∀ a, r.stride a = 1)
    (hf : ∀ v, Fill m c D v → Fill m c D' ((oM.access r : View sig .tc _ _ _).write (Elt F) v w Finset.univ)) (K : PUnit → sProp 𝕄) :
    outP m c D ⊢ iprop((outP m c D' -∗ K ⟨⟩) -∗ wpc c (Prog.lift (.store oM r w Finset.univ hs hm)) K) := by
  unfold outP
  iintro ⟨%v, %hv, H⟩ HK
  iapply (wp_store 𝒱₀ (c : Thread nD τ) none Set.univ (m := oM) (r := r) (w := w) (Mk := Finset.univ) (f := v) (Finset.subset_univ _)) $$ H
  iintro H
  rw [wp_ret]; imodintro
  iapply HK
  iexists _
  isplitr; · (ipureintro; exact hf v hv)
  iexact H

/-! ## One block -/

/-- Which device a slot's rows come from is neither the device itself nor the one opposite, for the slots computed whole. -/
theorem org_ne (l : Bool) (c : Dev nD) (k : Fin 9) (h0 : k ≠ 0) (h8 : k ≠ 8) : org l c k ≠ c ∧ org l c k ≠ rightBy c 8 := by
  revert l c k; decide

/-- The rows of a slot times the weights, scaled and passed through the gate: its two row groups are computed. -/
theorem wp_block (l : Bool) (k : Fin 9) (h0 : k ≠ 0) (h8 : k ≠ 8) (c : Dev nD) (q : PosShare TreeShare) (D : Finset (Fin 32))
    (off : Fin 2 → Nat) (hoff) (eo : off = ![256 * (org l c k).val, 0]) (K : PUnit → sProp 𝕄) :
    iprop(slotP l k c q (G m l c) ∗ wP m c ∗ outP m c D) ⊢
      iprop((slotP l k c q (G m l c) ∗ wP m c ∗ outP m c (both (org l c k) D) -∗ K ⟨⟩) -∗ wpc c (block (buf l) wM oM (scl m c) k off hoff) K) := by
  obtain ⟨n0, n8⟩ := org_ne l c k h0 h8
  unfold block
  simp only [wp_bind]
  iintro ⟨Hs, Hw, Ho⟩ HK
  iapply (wp_load_slot m l k c q) $$ Hs
  iintro Hs
  iapply (wp_load_w m c) $$ Hw
  iintro Hw
  iapply (wp_load_o m c D) $$ Ho
  iintro %y Ho
  iapply (wp_store_o m c D (both (org l c k) D) _ _ _ _ (fun v hv => fill_256 m c (org l c k) D v _ off hoff eo (fun i hi => by
    unfold outAt; rw [hi, if_neg n0, if_neg n8]) hv)) $$ Ho
  iintro Ho
  iapply HK
  isplitl [Hs]; · iexact Hs
  isplitl [Hw]; · iexact Hw
  iexact Ho

/-- The last slot's rows come from the opposite device, which is another one. -/
theorem org_eight (l : Bool) (c : Dev nD) : org l c 8 = rightBy c 8 := by revert l c; decide
theorem right_eight (c : Dev nD) : rightBy c 8 ≠ c := by revert c; decide

/-- Half of a slot for the opposite device, times the weights, scaled and passed through the gate: its row group is computed. -/
theorem wp_halfBlock (l : Bool) (p : Fin 2) (c : Dev nD) (D : Finset (Fin 32)) (g : Fin 32) (eg : g.val = 2 * (rightBy c 8).val + p.val)
    (off : Fin 2 → Nat) (hoff) (eo : off = ![128 * g.val, 0]) (K : PUnit → sProp 𝕄) :
    iprop(pc l 8 p c fullShare (G m l c) ∗ wP m c ∗ outP m c D) ⊢
      iprop((pc l 8 p c fullShare (G m l c) ∗ wP m c ∗ outP m c (insert g D) -∗ K ⟨⟩)
        -∗ wpc c (halfBlock (buf l) wM oM (scl m c) 8 p off hoff) K) := by
  have ho := org_eight l c
  have hc := right_eight c
  unfold halfBlock
  simp only [wp_bind]
  iintro ⟨Hs, Hw, Ho⟩ HK
  iapply (wp_load_half m l 8 p c fullShare) $$ Hs
  iintro Hs
  iapply (wp_load_w m c) $$ Hw
  iintro Hw
  iapply (wp_load_o m c D) $$ Ho
  iintro %y Ho
  iapply (wp_store_o m c D (insert g D) _ _ _ _ (fun v hv => fill_128 m c g D v _ off hoff eo (fun i hi => by
    have hg : (i 0).val / 128 = g.val := congrArg Fin.val hi
    have hd : devOf i = rightBy c 8 := Fin.ext (by show (i 0).val / 256 = _; have := p.isLt; omega)
    have hp : (⟨(i 0).val / 128 % 2, Nat.mod_lt _ (by decide)⟩ : Fin 2) = p := Fin.ext (by show (i 0).val / 128 % 2 = _; have := p.isLt; omega)
    unfold outAt
    rw [hp, hd, if_neg hc, if_pos rfl, ho]) hv)) $$ Ho
  iintro Ho
  iapply HK
  isplitl [Hs]; · iexact Hs
  isplitl [Hw]; · iexact Hw
  iexact Ho

end Cert.KernelIdeal.Own
-- ==== Proof.Hop.lean ====
/- The hops of the two rings: what each needs and what it leaves. -/
module

public import proofs.«01_k».proof.Proof.Blocks

@[expose] public section

set_option maxRecDepth 8000

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (nm : Dev nD × Option Q → ℕ)

/-! ## The parts of a hop -/

/-- Something for each direction and each half. -/
abbrev four (A : Bool → Fin 2 → sProp 𝕄) : sProp 𝕄 := iprop(A false 0 ∗ A false 1 ∗ A true 1 ∗ A true 0)

/-- The share of a received piece that is not lent on. -/
abbrev kept (l : Bool) (h : Fin 8) (p : Fin 2) (c : Dev nD) : sProp 𝕄 := pc l (sl1 h) p c (shr (!l)) (G m l c)

/-- A piece in two shares. -/
theorem pc_share (l : Bool) (k : Fin 9) (p : Fin 2) (c : Dev nD) (f : S9x256x4096.Idx → Elt F .fp8e4m3) :
    (pc l k p c fullShare f : sProp 𝕄) ⊣⊢ iprop(pc l k p c fullShare.left f ∗ pc l k p c fullShare.right f) := by
  cases l
  · exact pointsTo_share (PosShare.mem_left_op_right fullShare)
  · exact pointsTo_share (PosShare.mem_left_op_right fullShare)

theorem pc_split (l : Bool) (k : Fin 9) (p : Fin 2) (c : Dev nD) (f : S9x256x4096.Idx → Elt F .fp8e4m3) :
    (pc l k p c fullShare f : sProp 𝕄) ⊣⊢ iprop(pc l k p c (shr l) f ∗ pc l k p c (shr (!l)) f) := by
  cases l
  · exact pc_share false k p c f
  · exact (pc_share true k p c f).trans sep_comm

/-- A piece received at one hop is what the next hop lends, and a share kept. -/
theorem got_lent (l : Bool) (h h' : Fin 8) (hh : h'.val = h.val + 1) (p : Fin 2) (c : Dev nD) :
    (got m l h p c : sProp 𝕄) ⊢ iprop(lent m l h' p c ∗ kept m l h p c) := by
  have e : sd l h' = l := if_neg (by omega)
  have e' : sl0 h' = sl1 h := Fin.ext hh
  unfold lent
  rw [e, e']
  exact (pc_split l (sl1 h) p c (G m l c)).1

/-- While only later transfers are owed, an arrival may be waited for. -/
theorem arrive (l : Bool) (h : Fin 8) (p : Fin 2) (c : Dev nD) (t : List Snd) (ht : ∀ a ∈ t, h.val < a.2.1.val) :
    (levAts L lv : sProp 𝕄) ⊢ MayWait (c : Thread nD τ) (.dma (qsem (l, true, h, p))) () (owedL c t) :=
  mayWait_list c _ t (2 + h.val) (lv_cell c (some (l, true, h, p))).le (fun a ha => Nat.add_lt_add_left (ht a ha) 2)

abbrev h7 (h : Fin 6) : Fin 7 := ⟨h.val, by omega⟩
abbrev h8 (h : Fin 6) : Fin 8 := ⟨h.val, by omega⟩
abbrev n8 (h : Fin 6) : Fin 8 := ⟨h.val + 1, by omega⟩

/-- A piece received and sent on. -/
theorem wp_forward (l b : Bool) (h h' : Fin 8) (hh : h'.val = h.val + 1) (p : Fin 2) (c n : Dev nD) (hn : n = tgt l c)
    (hu : used l h p) (hu' : used l h' p) (t : List Snd) (ht : ∀ a ∈ t, h.val < a.2.1.val) (K : PUnit → sProp 𝕄) :
    iprop(env m nm ∗ RB l h p c ∗ SB l h' p c ∗ ow c (owedL c ((l, h', p) :: t)))
      ⊢ iprop(((semVal (recvCell l h p c) 0 ∗ SD l h' p c ∗ kept m l h p c ∗ ow c (owedL c t)) -∗ K ⟨⟩)
        -∗ wpc c (await (buf b) (buf_whole b) (buf l) (buf_whole l) (sems l true) (sl0 h) (sl1 h) h p) fun _ =>
          wpc c (send (buf l) (buf_whole l) (buf l) (buf_whole l) (sems l false) (sems l true) n (sl0 h') (sl1 h') h' p) K) := by
  iintro ⟨#HE, HR, HS, HO⟩ HK
  iapply (wp_recv_piece m nm l b h p c hu (owedL c ((l, h', p) :: t)) (arrive l h p c _ (List.forall_mem_cons.mpr ⟨by show h.val < h'.val; omega, ht⟩))) $$ [HR HO]
  · isplitr; · iexact HE
    isplitl [HR]; · iexact HR
    iexact HO
  iintro ⟨Hz, Hg, HO⟩
  ihave Hg := (got_lent m l h h' hh p c) $$ Hg
  icases Hg with ⟨Hl, Hk⟩
  iapply (wp_send_piece m nm l l h' p c n hn (if_neg (by omega)).symm hu' (owedL c t)) $$ [Hl HS HO]
  · isplitr; · iexact HE
    isplitl [Hl]; · iexact Hl
    isplitl [HS]; · iexact HS
    iexact HO
  iintro ⟨HS, HO⟩
  iapply HK
  isplitl [Hz]; · iexact Hz
  isplitl [HS]; · iexact HS
  isplitl [Hk]; · iexact Hk
  iexact HO

/-- The row groups computed at hop `h`. -/
abbrev grow (c : Dev nD) (h : Fin 8) (D : Finset (Fin 32)) : Finset (Fin 32) := both (org true c (sl1 h)) (both (org false c (sl1 h)) D)

theorem off2_at (c : Dev nD) (r : Fin 7) (h : Fin 8) (e : h.val = r.val) : k0_off2 c (BitVec.ofNat 32 r.val) = ![256 * (org false c (sl1 h)).val, 0] := by
  have hc : c.val < 16 := c.isLt
  have hr := r.isLt
  rw [k0_off2_eq]
  have : (org false c (sl1 h)).val = (((c.val + 15) - r.val) % 16) := by
    show (c.val + (16 - (h.val + 1))) % 16 = _
    omega
  rw [this]

theorem off3_at (c : Dev nD) (r : Fin 7) (h : Fin 8) (e : h.val = r.val) : k0_off3 c (BitVec.ofNat 32 r.val) = ![256 * (org true c (sl1 h)).val, 0] := by
  rw [k0_off3_eq]
  have : (org true c (sl1 h)).val = ((c.val + r.val + 1) % 16) := by
    show (c.val + (h.val + 1)) % 16 = _
    omega
  rw [this]

/-- One of the first six hops. -/
theorem wp_hop (h : Fin 6) (b : Bool) (c nr0 nr1 nl1 nl0 : Dev nD) (e0 : nr0 = tgt false c) (e1 : nr1 = tgt false c) (e2 : nl1 = tgt true c)
    (e3 : nl0 = tgt true c) (t : List Snd) (ht : ∀ a ∈ t, h.val < a.2.1.val) (D : Finset (Fin 32)) (K : PUnit → sProp 𝕄) :
    iprop(env m nm ∗ four (fun l p => RB l (h8 h) p c) ∗ four (fun l p => SB l (n8 h) p c) ∗ ow c (owedL c (sendsAt (n8 h) t)) ∗ wP m c ∗ outP m c D)
      ⊢ iprop(((four (fun l p => semVal (recvCell l (h8 h) p c) 0) ∗ four (fun l p => SD l (n8 h) p c) ∗ four (fun l p => kept m l (h8 h) p c)
            ∗ ow c (owedL c t) ∗ wP m c ∗ outP m c (grow c (h8 h) D)) -∗ K ⟨⟩)
        -∗ wpc c (hop h (buf false) (buf_whole false) (buf true) (buf_whole true) (buf b) (buf_whole b) wM oM (sems false false) (sems false true)
          (sems true false) (sems true true) (scl m c) c nr0 nr1 nl1 nl0) K) := by
  have hn : h.val < (n8 h).val := Nat.lt_succ_self _
  have hu (l p) : used l (h8 h) p := .inl (by have := h.isLt; show h.val < 7; omega)
  have hu' (l p) : used l (n8 h) p := .inl (by have := h.isLt; show h.val + 1 < 7; omega)
  have k0 : sl1 (h8 h) ≠ 0 := fun e => absurd (congrArg Fin.val e) (Nat.succ_ne_zero h.val)
  have k8 : sl1 (h8 h) ≠ 8 := fun e => absurd (show h.val + 1 = 8 from congrArg Fin.val e) (by have := h.isLt; omega)
  have t1 : ∀ a ∈ ((true, n8 h, 0) :: t : List Snd), h.val < a.2.1.val := List.forall_mem_cons.mpr ⟨hn, ht⟩
  have t2 : ∀ a ∈ ((true, n8 h, 1) :: (true, n8 h, 0) :: t : List Snd), h.val < a.2.1.val := List.forall_mem_cons.mpr ⟨hn, t1⟩
  have t3 : ∀ a ∈ ((false, n8 h, 1) :: (true, n8 h, 1) :: (true, n8 h, 0) :: t : List Snd), h.val < a.2.1.val := List.forall_mem_cons.mpr ⟨hn, t2⟩
  unfold hop
  simp only [wp_bind]
  iintro ⟨#HE, ⟨HR0, HR1, HL1, HL0⟩, ⟨SR0, SR1, SL1, SL0⟩, HO, Hw, Ho⟩ HK
  iapply (wp_forward m nm false false (h8 h) (n8 h) rfl 0 c nr0 e0 (hu _ _) (hu' _ _) _ t3) $$ [HR0 SR0 HO]
  · isplitr; · iexact HE
    isplitl [HR0]; · iexact HR0
    isplitl [SR0]; · iexact SR0
    iexact HO
  iintro ⟨ZR0, SR0, KR0, HO⟩
  iapply (wp_forward m nm false false (h8 h) (n8 h) rfl 1 c nr1 e1 (hu _ _) (hu' _ _) _ t2) $$ [HR1 SR1 HO]
  · isplitr; · iexact HE
    isplitl [HR1]; · iexact HR1
    isplitl [SR1]; · iexact SR1
    iexact HO
  iintro ⟨ZR1, SR1, KR1, HO⟩
  iapply (wp_forward m nm true b (h8 h) (n8 h) rfl 1 c nl1 e2 (hu _ _) (hu' _ _) _ t1) $$ [HL1 SL1 HO]
  · isplitr; · iexact HE
    isplitl [HL1]; · iexact HL1
    isplitl [SL1]; · iexact SL1
    iexact HO
  iintro ⟨ZL1, SL1, KL1, HO⟩
  iapply (wp_forward m nm true b (h8 h) (n8 h) rfl 0 c nl0 e3 (hu _ _) (hu' _ _) _ ht) $$ [HL0 SL0 HO]
  · isplitr; · iexact HE
    isplitl [HL0]; · iexact HL0
    isplitl [SL0]; · iexact SL0
    iexact HO
  iintro ⟨ZL0, SL0, KL0, HO⟩
  ihave HR := (slotP_halves false (sl1 (h8 h)) c (shr true) (G m false c)).2 $$ [KR0 KR1]
  · isplitl [KR0]; · iexact KR0
    iexact KR1
  iapply (wp_block m false (sl1 (h8 h)) k0 k8 c _ D _ _ (off2_at c (h7 h) (h8 h) rfl)) $$ [HR Hw Ho]
  · isplitl [HR]; · iexact HR
    isplitl [Hw]; · iexact Hw
    iexact Ho
  iintro ⟨HR, Hw, Ho⟩
  ihave HL := (slotP_halves true (sl1 (h8 h)) c (shr false) (G m true c)).2 $$ [KL0 KL1]
  · isplitl [KL0]; · iexact KL0
    iexact KL1
  iapply (wp_block m true (sl1 (h8 h)) k0 k8 c _ _ _ _ (off3_at c (h7 h) (h8 h) rfl)) $$ [HL Hw Ho]
  · isplitl [HL]; · iexact HL
    isplitl [Hw]; · iexact Hw
    iexact Ho
  iintro ⟨HL, Hw, Ho⟩
  ihave HR := (slotP_halves false (sl1 (h8 h)) c (shr true) (G m false c)).1 $$ HR
  icases HR with ⟨KR0, KR1⟩
  ihave HL := (slotP_halves true (sl1 (h8 h)) c (shr false) (G m true c)).1 $$ HL
  icases HL with ⟨KL0, KL1⟩
  iapply HK
  isplitl [ZR0 ZR1 ZL1 ZL0]
  · isplitl [ZR0]; · iexact ZR0
    isplitl [ZR1]; · iexact ZR1
    isplitl [ZL1]; · iexact ZL1
    iexact ZL0
  isplitl [SR0 SR1 SL1 SL0]
  · isplitl [SR0]; · iexact SR0
    isplitl [SR1]; · iexact SR1
    isplitl [SL1]; · iexact SL1
    iexact SL0
  isplitl [KR0 KR1 KL1 KL0]
  · isplitl [KR0]; · iexact KR0
    isplitl [KR1]; · iexact KR1
    isplitl [KL1]; · iexact KL1
    iexact KL0
  isplitl [HO]; · iexact HO
  isplitl [Hw]; · iexact Hw
  iexact Ho

end Cert.KernelIdeal.Own
-- ==== Proof.Tail.lean ====
/- Many hops one after another, the last two hops, and the end. -/
module

public import proofs.«01_k».proof.Proof.Hop

@[expose] public section

set_option maxRecDepth 8000

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (nm : Dev nD × Option Q → ℕ)

/-! ## Lists of parts -/

/-- Something for each member of a list. -/
def parts {α : Type} (A : α → sProp 𝕄) : List α → sProp 𝕄
  | [] => iprop(emp)
  | h :: t => iprop(A h ∗ parts A t)

/-! ## The first six hops -/

/-- The transfers made at the hops of a list and after. -/
def sendsOf : List (Fin 6) → List Snd
  | [] => [(false, 7, 0), (true, 7, 1)]
  | h :: t => sendsAt (n8 h) (sendsOf t)

theorem sendsOf_gt (n : ℕ) (hn : n < 7) : ∀ t : List (Fin 6), (∀ h ∈ t, n < h.val) → ∀ a ∈ sendsOf t, n < a.2.1.val
  | [], _ => List.forall_mem_cons.mpr ⟨hn, List.forall_mem_cons.mpr ⟨hn, fun _ h => absurd h List.not_mem_nil⟩⟩
  | h :: t, hh => by
    have h1 : n < (n8 h).val := Nat.lt_succ_of_lt (hh h List.mem_cons_self)
    have h2 := sendsOf_gt n hn t (fun a ha => hh a (List.mem_cons_of_mem _ ha))
    exact List.forall_mem_cons.mpr ⟨h1, List.forall_mem_cons.mpr ⟨h1, List.forall_mem_cons.mpr ⟨h1, List.forall_mem_cons.mpr ⟨h1, h2⟩⟩⟩⟩

/-- What hop `h` needs, -/
abbrev hopIn (c : Dev nD) (h : Fin 6) : sProp 𝕄 := iprop(four (fun l p => RB l (h8 h) p c) ∗ four (fun l p => SB l (n8 h) p c))
/-- and what it leaves. -/
abbrev hopOut (c : Dev nD) (h : Fin 6) : sProp 𝕄 :=
  iprop(four (fun l p => semVal (recvCell l (h8 h) p c) 0) ∗ four (fun l p => SD l (n8 h) p c) ∗ four (fun l p => kept m l (h8 h) p c))

/-- The hops of a list, one after another, and then whatever `K` says. -/
def wrounds (c : Dev nD) (K : sProp 𝕄) : List (Fin 6) → sProp 𝕄
  | [] => K
  | h :: t => wpc c (hop h (buf false) (buf_whole false) (buf true) (buf_whole true) (buf (sd true (h8 h))) (buf_whole (sd true (h8 h))) wM oM
      (sems false false) (sems false true) (sems true false) (sems true true) (scl m c) c (tgt false c) (tgt false c) (tgt true c) (tgt true c))
      fun _ => wrounds c K t

/-- The row groups computed by the hops of a list. -/
def growL (c : Dev nD) : List (Fin 6) → Finset (Fin 32) → Finset (Fin 32)
  | [], D => D
  | h :: t, D => growL c t (grow c (h8 h) D)

theorem wp_rounds (c : Dev nD) (K : sProp 𝕄) : ∀ (t : List (Fin 6)) (hs : t.Pairwise (· < ·)) (D : Finset (Fin 32)),
    iprop(env m nm ∗ parts (hopIn c) t ∗ ow c (owedL c (sendsOf t)) ∗ wP m c ∗ outP m c D)
      ⊢ iprop(((parts (hopOut m c) t ∗ ow c (owedL c (sendsOf [])) ∗ wP m c ∗ outP m c (growL c t D)) -∗ K) -∗ wrounds m c K t)
  | [], _, D => by
    unfold wrounds parts growL
    iintro ⟨#HE, -, HO, Hw, Ho⟩ HK
    iapply HK
    isplitr; · iempintro
    isplitl [HO]; · iexact HO
    isplitl [Hw]; · iexact Hw
    iexact Ho
  | h :: t, hs, D => by
    obtain ⟨hlt, hs'⟩ := List.pairwise_cons.mp hs
    unfold wrounds parts growL
    iintro ⟨#HE, ⟨⟨HR, HS⟩, HT⟩, HO, Hw, Ho⟩ HK
    iapply (wp_hop m nm h (sd true (h8 h)) c _ _ _ _ rfl rfl rfl rfl (sendsOf t) (sendsOf_gt h.val (by have := h.isLt; omega) t (fun a ha => hlt a ha)) D)
      $$ [HR HS HO Hw Ho]
    · isplitr; · iexact HE
      isplitl [HR]; · iexact HR
      isplitl [HS]; · iexact HS
      isplitl [HO]; · iexact HO
      isplitl [Hw]; · iexact Hw
      iexact Ho
    iintro ⟨HZ, HS, HKe, HO, Hw, Ho⟩
    iapply (wp_rounds c K t hs' (grow c (h8 h) D)) $$ [HT HO Hw Ho]
    · isplitr; · iexact HE
      isplitl [HT]; · iexact HT
      isplitl [HO]; · iexact HO
      isplitl [Hw]; · iexact Hw
      iexact Ho
    iintro ⟨HT, HO, Hw, Ho⟩
    iapply HK
    isplitl [HZ HS HKe HT]
    · isplitl [HZ HS HKe]
      · isplitl [HZ]; · iexact HZ
        isplitl [HS]; · iexact HS
        iexact HKe
      iexact HT
    isplitl [HO]; · iexact HO
    isplitl [Hw]; · iexact Hw
    iexact Ho

/-! ## The last two hops -/

/-- The seventh hop: two pieces are sent on, two stay whole. -/
theorem wp_hop6 (c nr nl : Dev nD) (e0 : nr = tgt false c) (e1 : nl = tgt true c) (D : Finset (Fin 32)) (K : PUnit → sProp 𝕄) :
    iprop(env m nm ∗ four (fun l p => RB l 6 p c) ∗ (SB false 7 0 c ∗ SB true 7 1 c) ∗ ow c (owedL c (sendsOf [])) ∗ wP m c ∗ outP m c D)
      ⊢ iprop(((four (fun l p => semVal (recvCell l 6 p c) 0) ∗ (SD false 7 0 c ∗ SD true 7 1 c) ∗ four (fun l p => kept m l 6 p c)
            ∗ (pc false 7 1 c (shr false) (G m false c) ∗ pc true 7 0 c (shr true) (G m true c))
            ∗ ow c 0 ∗ wP m c ∗ outP m c (grow c 6 D)) -∗ K ⟨⟩)
        -∗ wpc c (hop6 (buf false) (buf_whole false) (buf true) (buf_whole true) wM oM (sems false false) (sems false true)
          (sems true false) (sems true true) (scl m c) c nr nl) K) := by
  have h7 : ∀ a ∈ ([(true, 7, 1)] : List Snd), 6 < a.2.1.val := List.forall_mem_cons.mpr ⟨by decide, fun _ h => absurd h List.not_mem_nil⟩
  have h0 : ∀ a ∈ ([] : List Snd), 6 < a.2.1.val := fun _ h => absurd h List.not_mem_nil
  have u6 (l p) : used l 6 p := .inl (by decide)
  have off2 : k0_off2 c 6#32 = ![256 * (org false c (sl1 6)).val, 0] := off2_at c 6 6 rfl
  have off3 : k0_off3 c 6#32 = ![256 * (org true c (sl1 6)).val, 0] := off3_at c 6 6 rfl
  unfold hop6 sendsOf
  simp only [wp_bind]
  iintro ⟨#HE, ⟨HR0, HR1, HL1, HL0⟩, ⟨SR0, SL1⟩, HO, Hw, Ho⟩ HK
  iapply (wp_forward m nm false false 6 7 rfl 0 c nr e0 (u6 _ _) (.inr rfl) _ h7) $$ [HR0 SR0 HO]
  · isplitr; · iexact HE
    isplitl [HR0]; · iexact HR0
    isplitl [SR0]; · iexact SR0
    iexact HO
  iintro ⟨ZR0, SR0, KR0, HO⟩
  iapply (wp_recv_piece m nm false false 6 1 c (u6 _ _) _ (arrive false 6 1 c _ h7)) $$ [HR1 HO]
  · isplitr; · iexact HE
    isplitl [HR1]; · iexact HR1
    iexact HO
  iintro ⟨ZR1, GR1, HO⟩
  iapply (wp_forward m nm true true 6 7 rfl 1 c nl e1 (u6 _ _) (.inr rfl) _ h0) $$ [HL1 SL1 HO]
  · isplitr; · iexact HE
    isplitl [HL1]; · iexact HL1
    isplitl [SL1]; · iexact SL1
    iexact HO
  iintro ⟨ZL1, SL1, KL1, HO⟩
  iapply (wp_recv_piece m nm true true 6 0 c (u6 _ _) _ (arrive true 6 0 c _ h0)) $$ [HL0 HO]
  · isplitr; · iexact HE
    isplitl [HL0]; · iexact HL0
    iexact HO
  iintro ⟨ZL0, GL0, HO⟩
  ihave GR1 := (show got m false 6 1 c ⊢ _ from (pc_split false 7 1 c (G m false c)).1) $$ GR1
  ihave GL0 := (show got m true 6 0 c ⊢ _ from (pc_split true 7 0 c (G m true c)).1) $$ GL0
  icases GR1 with ⟨XR1, KR1⟩
  icases GL0 with ⟨XL0, KL0⟩
  ihave HR := (slotP_halves false (sl1 6) c (shr true) (G m false c)).2 $$ [KR0 KR1]
  · isplitl [KR0]; · iexact KR0
    iexact KR1
  iapply (wp_block m false (sl1 6) (by decide) (by decide) c _ D _ _ off2) $$ [HR Hw Ho]
  · isplitl [HR]; · iexact HR
    isplitl [Hw]; · iexact Hw
    iexact Ho
  iintro ⟨HR, Hw, Ho⟩
  ihave HL := (slotP_halves true (sl1 6) c (shr false) (G m true c)).2 $$ [KL0 KL1]
  · isplitl [KL0]; · iexact KL0
    iexact KL1
  iapply (wp_block m true (sl1 6) (by decide) (by decide) c _ _ _ _ off3) $$ [HL Hw Ho]
  · isplitl [HL]; · iexact HL
    isplitl [Hw]; · iexact Hw
    iexact Ho
  iintro ⟨HL, Hw, Ho⟩
  ihave HR := (slotP_halves false (sl1 6) c (shr true) (G m false c)).1 $$ HR
  icases HR with ⟨KR0, KR1⟩
  ihave HL := (slotP_halves true (sl1 6) c (shr false) (G m true c)).1 $$ HL
  icases HL with ⟨KL0, KL1⟩
  iapply HK
  isplitl [ZR0 ZR1 ZL1 ZL0]
  · isplitl [ZR0]; · iexact ZR0
    isplitl [ZR1]; · iexact ZR1
    isplitl [ZL1]; · iexact ZL1
    iexact ZL0
  isplitl [SR0 SL1]
  · isplitl [SR0]; · iexact SR0
    iexact SL1
  isplitl [KR0 KR1 KL1 KL0]
  · isplitl [KR0]; · iexact KR0
    isplitl [KR1]; · iexact KR1
    isplitl [KL1]; · iexact KL1
    iexact KL0
  isplitl [XR1 XL0]
  · isplitl [XR1]; · iexact XR1
    iexact XL0
  isplitl [HO]; · iexact HO
  isplitl [Hw]; · iexact Hw
  iexact Ho

/-- The row groups of the opposite device. -/
abbrev opp (c : Dev nD) (p : Fin 2) : Fin 32 := ⟨2 * (rightBy c 8).val + p.val, by have : (rightBy c 8).val < 16 := (rightBy c 8).isLt; have := p.isLt; omega⟩

/-- The last hop. -/
theorem wp_hop7 (c : Dev nD) (D : Finset (Fin 32)) (K : PUnit → sProp 𝕄) :
    iprop(env m nm ∗ (RB false 7 0 c ∗ RB true 7 1 c) ∗ ow c 0 ∗ wP m c ∗ outP m c D)
      ⊢ iprop((((semVal (recvCell false 7 0 c) 0 ∗ semVal (recvCell true 7 1 c) 0) ∗ (got m false 7 0 c ∗ got m true 7 1 c)
            ∗ ow c 0 ∗ wP m c ∗ outP m c (insert (opp c 1) (insert (opp c 0) D))) -∗ K ⟨⟩)
        -∗ wpc c (hop7 (buf false) (buf_whole false) (buf true) (buf_whole true) wM oM (sems false true) (sems true true) (scl m c) c) K) := by
  have h0 : ∀ a ∈ ([] : List Snd), 7 < a.2.1.val := fun _ h => absurd h List.not_mem_nil
  have off4 : k0_off4 c = ![128 * (opp c 0).val, 0] := by
    rw [k0_off4_eq]
    have : 256 * ((c.val + 8) % 16) = 128 * (opp c 0).val := by show _ = 128 * (2 * ((c.val + 8) % 16) + 0); omega
    rw [this]
  have off5 : k0_off5 c = ![128 * (opp c 1).val, 0] := by
    rw [k0_off5_eq]
    have : 256 * ((c.val + 8) % 16) + 128 = 128 * (opp c 1).val := by show _ = 128 * (2 * ((c.val + 8) % 16) + 1); omega
    rw [this]
  unfold hop7
  simp only [wp_bind]
  iintro ⟨#HE, ⟨HR0, HL1⟩, HO, Hw, Ho⟩ HK
  iapply (wp_recv_piece m nm false false 7 0 c (.inr rfl) 0 (arrive false 7 0 c [] h0)) $$ [HR0 HO]
  · isplitr; · iexact HE
    isplitl [HR0]; · iexact HR0
    iexact HO
  iintro ⟨ZR0, GR0, HO⟩
  iapply (wp_recv_piece m nm true true 7 1 c (.inr rfl) 0 (arrive true 7 1 c [] h0)) $$ [HL1 HO]
  · isplitr; · iexact HE
    isplitl [HL1]; · iexact HL1
    iexact HO
  iintro ⟨ZL1, GL1, HO⟩
  iapply (wp_halfBlock m false 0 c D (opp c 0) rfl _ _ off4) $$ [GR0 Hw Ho]
  · isplitl [GR0]; · iexact GR0
    isplitl [Hw]; · iexact Hw
    iexact Ho
  iintro ⟨GR0, Hw, Ho⟩
  iapply (wp_halfBlock m true 1 c _ (opp c 1) rfl _ _ off5) $$ [GL1 Hw Ho]
  · isplitl [GL1]; · iexact GL1
    isplitl [Hw]; · iexact Hw
    iexact Ho
  iintro ⟨GL1, Hw, Ho⟩
  iapply HK
  isplitl [ZR0 ZL1]
  · isplitl [ZR0]; · iexact ZR0
    iexact ZL1
  isplitl [GR0 GL1]
  · isplitl [GR0]; · iexact GR0
    iexact GL1
  isplitl [HO]; · iexact HO
  isplitl [Hw]; · iexact Hw
  iexact Ho

/-! ## The end -/

abbrev e8 (h : Fin 7) : Fin 8 := ⟨h.val, by omega⟩

/-- The half that direction `l` sends last, and the other. -/
abbrev one (l : Bool) : Fin 2 := if l then 1 else 0
abbrev two (l : Bool) : Fin 2 := if l then 0 else 1

/-- A transfer gone: its cell is closed and what was lent is back. -/
abbrev gone (l : Bool) (h : Fin 8) (p : Fin 2) (c : Dev nD) : sProp 𝕄 := iprop(semVal (sendCell l h p c) 0 ∗ lent m l h p c)

/-- The drains of a list of hops, one after another, and then whatever `K` says. -/
def wdrains (l : Bool) (c : Dev nD) (K : sProp 𝕄) : List (Fin 7) → sProp 𝕄
  | [] => K
  | h :: t => wpc c (drain (F := F) (buf (sd l (e8 h))) (buf_whole (sd l (e8 h))) (buf l) (buf_whole l) (sems l false) h (one l) (two l)) fun _ => wdrains l c K t

theorem wp_drains (l : Bool) (c : Dev nD) (K : sProp 𝕄) : ∀ t : List (Fin 7),
    iprop(env m nm ∗ parts (fun h => iprop(SD l (e8 h) (one l) c ∗ SD l (e8 h) (two l) c)) t ∗ ow c 0)
      ⊢ iprop(((parts (fun h => iprop(gone m l (e8 h) (one l) c ∗ gone m l (e8 h) (two l) c)) t ∗ ow c 0) -∗ K) -∗ wdrains l c K t)
  | [] => by
    unfold wdrains parts
    iintro ⟨#HE, -, HO⟩ HK
    iapply HK
    isplitr; · iempintro
    iexact HO
  | h :: t => by
    have hu (p) : used l (e8 h) p := .inl h.isLt
    unfold wdrains parts drain
    simp only [wp_bind]
    iintro ⟨#HE, ⟨⟨HA, HB⟩, HT⟩, HO⟩ HK
    iapply (wp_sent_piece m nm l (sd l (e8 h)) (e8 h) (one l) c (hu _)) $$ [HA HO]
    · isplitr; · iexact HE
      isplitl [HA]; · iexact HA
      iexact HO
    iintro ⟨ZA, HA, HO⟩
    iapply (wp_sent_piece m nm l (sd l (e8 h)) (e8 h) (two l) c (hu _)) $$ [HB HO]
    · isplitr; · iexact HE
      isplitl [HB]; · iexact HB
      iexact HO
    iintro ⟨ZB, HB, HO⟩
    iapply (wp_drains l c K t) $$ [HT HO]
    · isplitr; · iexact HE
      isplitl [HT]; · iexact HT
      iexact HO
    iintro ⟨HT, HO⟩
    iapply HK
    isplitl [ZA HA ZB HB HT]
    · isplitl [ZA HA ZB HB]
      · isplitl [ZA HA]
        · isplitl [ZA]; · iexact ZA
          iexact HA
        isplitl [ZB]; · iexact ZB
        iexact HB
      iexact HT
    iexact HO

abbrev hops7 : List (Fin 7) := [0, 1, 2, 3, 4, 5, 6]

/-- All transfers of a direction have left. -/
abbrev SDs (l : Bool) (c : Dev nD) : sProp 𝕄 := iprop(parts (fun h => iprop(SD l (e8 h) (one l) c ∗ SD l (e8 h) (two l) c)) hops7 ∗ SD l 7 (one l) c)
abbrev gones (l : Bool) (c : Dev nD) : sProp 𝕄 :=
  iprop(parts (fun h => iprop(gone m l (e8 h) (one l) c ∗ gone m l (e8 h) (two l) c)) hops7 ∗ gone m l 7 (one l) c)

theorem wp_ends (l : Bool) (c : Dev nD) (K : sProp 𝕄) :
    iprop(env m nm ∗ SDs l c ∗ ow c 0)
      ⊢ iprop(((gones m l c ∗ ow c 0) -∗ K)
        -∗ wdrains l c (wpc c (await (F := F) (buf l) (buf_whole l) (buf l) (buf_whole l) (sems l false) 8 7 7 (one l)) fun _ => K) hops7) := by
  iintro ⟨#HE, ⟨HT, HZ⟩, HO⟩ HK
  iapply (wp_drains m nm l c _ hops7) $$ [HT HO]
  · isplitr; · iexact HE
    isplitl [HT]; · iexact HT
    iexact HO
  iintro ⟨HT, HO⟩
  iapply (wp_sent_piece m nm l l 7 (one l) c (.inr rfl)) $$ [HZ HO]
  · isplitr; · iexact HE
    isplitl [HZ]; · iexact HZ
    iexact HO
  iintro ⟨ZZ, HZ, HO⟩
  iapply HK
  isplitl [HT ZZ HZ]
  · isplitl [HT]; · iexact HT
    isplitl [ZZ]; · iexact ZZ
    iexact HZ
  iexact HO

theorem wp_finish (c : Dev nD) (K : PUnit → sProp 𝕄) :
    iprop(env m nm ∗ (SDs false c ∗ SDs true c) ∗ ow c 0)
      ⊢ iprop((((gones m false c ∗ gones m true c) ∗ ow c 0) -∗ K ⟨⟩)
        -∗ wpc c (finish (F := F) (buf false) (buf_whole false) (buf true) (buf_whole true) (sems false false) (sems true false)) K) := by
  have e : wpc c (finish (F := F) (buf false) (buf_whole false) (buf true) (buf_whole true) (sems false false) (sems true false)) K
      = wdrains false c (wpc c (await (F := F) (buf false) (buf_whole false) (buf false) (buf_whole false) (sems false false) 8 7 7 (one false)) fun _ =>
        wdrains true c (wpc c (await (F := F) (buf true) (buf_whole true) (buf true) (buf_whole true) (sems true false) 8 7 7 (one true)) fun _ => K ⟨⟩) hops7) hops7 := by
    unfold finish
    simp only [wp_bind]
    rfl
  rw [e]
  iintro ⟨#HE, ⟨HR, HL⟩, HO⟩ HK
  iapply (wp_ends m nm false c) $$ [HR HO]
  · isplitr; · iexact HE
    isplitl [HR]; · iexact HR
    iexact HO
  iintro ⟨HR, HO⟩
  iapply (wp_ends m nm true c) $$ [HL HO]
  · isplitr; · iexact HE
    isplitl [HL]; · iexact HL
    iexact HO
  iintro ⟨HL, HO⟩
  iapply HK
  isplitl [HR HL]
  · isplitl [HR]; · iexact HR
    iexact HL
  iexact HO

end Cert.KernelIdeal.Own
-- ==== Proof.Parts.lean ====
/- The parts of the run regrouped: by hop, and by direction. -/
module

public import proofs.«01_k».proof.Proof.Tail

@[expose] public section

set_option maxRecDepth 8000

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (nm : Dev nD × Option Q → ℕ)

/-! ## Lists of parts -/

theorem parts_sep {α : Type} (A B : α → sProp 𝕄) : ∀ t : List α, iprop(parts A t ∗ parts B t) ⊣⊢ parts (fun h => iprop(A h ∗ B h)) t
  | [] => by
    unfold parts
    constructor
    · iintro ⟨-, -⟩; iempintro
    · iintro -; isplitr <;> iempintro
  | h :: t => by
    have ih := parts_sep A B t
    have i1 := ih.1
    have i2 := ih.2
    unfold parts
    constructor
    · iintro ⟨⟨HA, HTA⟩, HB, HTB⟩
      isplitl [HA HB]
      · isplitl [HA]; · iexact HA
        iexact HB
      iapply i1
      isplitl [HTA]; · iexact HTA
      iexact HTB
    · iintro ⟨⟨HA, HB⟩, HT⟩
      ihave HT := i2 $$ HT
      icases HT with ⟨HTA, HTB⟩
      isplitl [HA HTA]
      · isplitl [HA]; · iexact HA
        iexact HTA
      isplitl [HB]; · iexact HB
      iexact HTB

theorem parts_mono {α : Type} {A B : α → sProp 𝕄} (h : ∀ a, A a ⊢ B a) : ∀ t : List α, parts A t ⊢ parts B t
  | [] => .rfl
  | a :: t => BIClass.sep_mono (h a) (parts_mono h t)

abbrev hops6 : List (Fin 6) := [0, 1, 2, 3, 4, 5]

/-- The hop before, and the hop after. -/
abbrev lo (h : Fin 6) : Fin 7 := ⟨h.val, by omega⟩
abbrev hi (h : Fin 6) : Fin 7 := ⟨h.val + 1, by omega⟩

theorem parts_first (A : Fin 7 → sProp 𝕄) : parts A hops7 = iprop(A 0 ∗ parts (fun h => A (hi h)) hops6) := rfl

theorem parts_snoc {α : Type} (A : α → sProp 𝕄) (x : α) : ∀ t : List α, parts A (t ++ [x]) ⊣⊢ iprop(parts A t ∗ A x)
  | [] => by
    simp only [List.nil_append, parts]
    constructor
    · iintro ⟨H, -⟩
      isplitr; · iempintro
      iexact H
    · iintro ⟨-, H⟩
      isplitl [H]; · iexact H
      iempintro
  | a :: t => by
    have ih := parts_snoc A x t
    have i1 := ih.1
    have i2 := ih.2
    simp only [List.cons_append, parts]
    constructor
    · iintro ⟨H, HT⟩
      ihave HT := i1 $$ HT
      icases HT with ⟨HT, HX⟩
      isplitr [HX]
      · isplitl [H]; · iexact H
        iexact HT
      iexact HX
    · iintro ⟨⟨H, HT⟩, HX⟩
      isplitl [H]; · iexact H
      iapply i2
      isplitl [HT]; · iexact HT
      iexact HX

theorem parts_last (A : Fin 7 → sProp 𝕄) : parts A hops7 ⊣⊢ iprop(parts (fun h => A (lo h)) hops6 ∗ A 6) :=
  parts_snoc A 6 [0, 1, 2, 3, 4, 5]

theorem parts_list {α : Type} (A : α → sProp 𝕄) : ∀ t : List α, bigSepL t A = parts A t
  | [] => rfl
  | a :: t => (bigSepL_cons a t A).trans (congrArg (fun X => iprop(A a ∗ X)) (parts_list A t))

theorem parts_big {α : Type} [Fintype α] [DecidableEq α] (t : List α) (h : Finset.univ = t.toFinset) (hn : t.Nodup) (A : α → sProp 𝕄) :
    (bigSep Finset.univ A : sProp 𝕄) = parts A t := (bigSep_univ_eq_bigSepL t h hn A).trans (parts_list A t)

/-! ## All transfers of a direction -/

/-- Eight hops are the first seven and the last. -/
theorem big_eight (A : Fin 8 → sProp 𝕄) : (bigSep Finset.univ A : sProp 𝕄) ⊣⊢ iprop(parts (fun h : Fin 7 => A (e8 h)) hops7 ∗ A 7) :=
  parts_big [0, 1, 2, 3, 4, 5, 6, 7] (by decide) (by decide) A ▸ parts_snoc A 7 [0, 1, 2, 3, 4, 5, 6]

/-- The two halves, the one a direction sends last first. -/
theorem big_two (l : Bool) (A : Fin 2 → sProp 𝕄) : (bigSep Finset.univ A : sProp 𝕄) ⊣⊢ iprop(A (one l) ∗ A (two l)) := by
  rw [parts_big [one l, two l] (by cases l <;> decide) (by cases l <;> decide)]
  simp only [parts]
  constructor
  · iintro ⟨HA, HB, -⟩
    isplitl [HA]; · iexact HA
    iexact HB
  · iintro ⟨HA, HB⟩
    isplitl [HA]; · iexact HA
    isplitl [HB]; · iexact HB
    iempintro

/-- Something for every transfer of a direction there is, something else for the one there is not. -/
theorem ring_split (l : Bool) (A B : Fin 8 → Fin 2 → sProp 𝕄) :
    (bigSep Finset.univ fun h : Fin 8 => bigSep Finset.univ fun p : Fin 2 => if used l h p then A h p else B h p : sProp 𝕄)
      ⊣⊢ iprop(parts (fun h : Fin 7 => iprop(A (e8 h) (one l) ∗ A (e8 h) (two l))) hops7 ∗ A 7 (one l) ∗ B 7 (two l)) := by
  have hu (h : Fin 7) (p : Fin 2) : used l (e8 h) p := .inl h.isLt
  have e7 (h : Fin 7) : (bigSep Finset.univ fun p : Fin 2 => if used l (e8 h) p then A (e8 h) p else B (e8 h) p : sProp 𝕄)
      ⊣⊢ iprop(A (e8 h) (one l) ∗ A (e8 h) (two l)) := by
    have h2 := big_two l (fun p => if used l (e8 h) p then A (e8 h) p else B (e8 h) p)
    simp only [if_pos (hu h _)] at h2 ⊢
    exact h2
  have e8' : (bigSep Finset.univ fun p : Fin 2 => if used l 7 p then A 7 p else B 7 p : sProp 𝕄) ⊣⊢ iprop(A 7 (one l) ∗ B 7 (two l)) := by
    have h2 := big_two l (fun p => if used l 7 p then A 7 p else B 7 p)
    rw [if_pos (show used l 7 (one l) from .inr rfl), if_neg (show ¬ used l 7 (two l) by cases l <;> decide)] at h2
    exact h2
  have b := big_eight (fun h : Fin 8 => bigSep Finset.univ fun p : Fin 2 => if used l h p then A h p else B h p)
  exact b.trans ⟨BIClass.sep_mono (parts_mono (fun h => (e7 h).1) _) e8'.1, BIClass.sep_mono (parts_mono (fun h => (e7 h).2) _) e8'.2⟩

end Cert.KernelIdeal.Own
-- ==== Proof.Start.lean ====
/- The beginning of the run: the barrier, the scale, the own rows put into slot 0 and sent, the own block computed. -/
module

public import proofs.«01_k».proof.Proof.Parts
import Idealize.ShloMosaic.Lib.Pointwise

@[expose] public section

set_option maxRecDepth 8000

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (nm : Dev nD × Option Q → ℕ)

/-! ## The small steps -/

theorem pay2_at (v : Vec F S128x4096 .fp8e4m3) (j : S1x128x4096.Idx) : k0_pay2 v j = v (Shape.pair (j 1) (j 2)) := by
  pointwise [k0_pay2]
  exact congrArg v (funext fun a => match a with | 0 => rfl | 1 => rfl)
theorem pay3_at (v : Vec F S128x4096 .fp8e4m3) (j : S1x128x4096.Idx) : k0_pay3 v j = v (Shape.pair (j 1) (j 2)) := by
  pointwise [k0_pay3]
  exact congrArg v (funext fun a => match a with | 0 => rfl | 1 => rfl)

abbrev xM : Memref sig .tc .vmem S256x4096 .fp8e4m3 := Memref.whole cc0_stg0_0
abbrev sxM : Memref sig .tc .smem S1 .f32 := Memref.whole cc0_stg2_0
abbrev swM : Memref sig .tc .smem S1 .f32 := Memref.whole cc0_stg3_0

/-- The rows of device `c`, and its scales. -/
def xP (c : Dev nD) : sProp 𝕄 := ((c : Thread nD τ).loc cc0_stg0_0) ↦{fullShare} (xstg m c)
def sxP (c : Dev nD) : sProp 𝕄 := ((c : Thread nD τ).loc cc0_stg2_0) ↦{fullShare} (sxstg m c)
def swP (c : Dev nD) : sProp 𝕄 := ((c : Thread nD τ).loc cc0_stg3_0) ↦{fullShare} (swstg m c)

theorem wp_load_x (c : Dev nD) (r : Rect S256x4096) (hl : xM.view.LoadsAt r.toLoadRect) (K : (r.shape.Idx → Elt F .fp8e4m3) → sProp 𝕄) :
    xP m c ⊢ iprop((xP m c -∗ K (fun j => xstg m c (r.emb j))) -∗ wpc c (Prog.lift (.load xM r.toLoadRect hl)) K) := by
  unfold xP
  iintro H HK
  iapply (wp_load 𝒱₀ (c : Thread nD τ) none Set.univ (m := xM) (Finset.subset_univ _)) $$ H
  iintro H
  rw [wp_ret, show xM.view.readAt (Elt F) r.toLoadRect (xstg m c) = (fun j => xstg m c (r.emb j)) from rfl]; imodintro
  iapply HK; iexact H

theorem i0_unique (i : S1.Idx) : i = i0 := by
  funext a
  have h : (i a).val < S1.size a := (i a).isLt
  refine Fin.ext ?_
  match a with
  | 0 => have h : (i 0).val < 1 := h; show (i 0).val = 0; omega

theorem wp_load_sx (c : Dev nD) (h1 hp) (K : Elt F .f32 → sProp 𝕄) :
    sxP m c ⊢ iprop((sxP m c -∗ K (sxstg m c i0)) -∗ wpc c (smemLoad sxM (Rect.unit (s := S1) ![0] S1.size inb_S1_S1_0) h1 hp) K) := by
  have e (x) : (sxM.access (Rect.unit (s := S1) ![0] S1.size inb_S1_S1_0) : View sig .tc _ _ _).read (Elt F) (sxstg m c) x = sxstg m c i0 :=
    congrArg (sxstg m c) (i0_unique _)
  unfold sxP smemLoad
  iintro H HK
  iapply (wp_smemLoadElt 𝒱₀ (c : Thread nD τ) none Set.univ (m := sxM) (r := Rect.unit (s := S1) ![0] S1.size inb_S1_S1_0) (S := Finset.univ) (f := sxstg m c) (Finset.subset_univ _)) $$ H
  iintro H
  rw [wp_ret, e]; imodintro
  iapply HK; iexact H

theorem wp_load_sw (c : Dev nD) (h1 hp) (K : Elt F .f32 → sProp 𝕄) :
    swP m c ⊢ iprop((swP m c -∗ K (swstg m c i0)) -∗ wpc c (smemLoad swM (Rect.unit (s := S1) ![0] S1.size inb_S1_S1_0) h1 hp) K) := by
  have e (x) : (swM.access (Rect.unit (s := S1) ![0] S1.size inb_S1_S1_0) : View sig .tc _ _ _).read (Elt F) (swstg m c) x = swstg m c i0 :=
    congrArg (swstg m c) (i0_unique _)
  unfold swP smemLoad
  iintro H HK
  iapply (wp_smemLoadElt 𝒱₀ (c : Thread nD τ) none Set.univ (m := swM) (r := Rect.unit (s := S1) ![0] S1.size inb_S1_S1_0) (S := Finset.univ) (f := swstg m c) (Finset.subset_univ _)) $$ H
  iintro H
  rw [wp_ret, e]; imodintro
  iapply HK; iexact H

/-- A piece at any contents. -/
abbrev any (l : Bool) (k : Fin 9) (p : Fin 2) (c : Dev nD) : sProp 𝕄 := iprop(∃ f, pc l k p c fullShare f)

theorem wp_load_any (k : Fin 9) (p : Fin 2) (c : Dev nD) (K : (S1x128x4096.Idx → Elt F .fp8e4m3) → sProp 𝕄) :
    (any false k p c : sProp 𝕄) ⊢ iprop((∀ y, any false k p c -∗ K y)
      -∗ wpc c (Prog.lift (.load (buf false) (pieceRect k p).toLoadRect (View.loadsAt_vmem h_S1x128x4096))) K) := by
  unfold any
  simp only [show ∀ f, (pc false k p c fullShare f : sProp 𝕄) = (((c : Thread nD τ).loc cc0_scratch0) ↦[pset k p]{fullShare} f) from fun _ => rfl]
  iintro ⟨%f, H⟩ HK
  iapply (wp_load 𝒱₀ (c : Thread nD τ) none Set.univ (m := buf false) (show _ = _ from Finset.map_refl).subset) $$ H
  iintro H
  rw [wp_ret]; imodintro
  iapply HK $$ %_
  iexists f
  iexact H

/-- Storing the rows a piece of slot 0 is for. -/
theorem wp_store_piece (p : Fin 2) (c : Dev nD) (w : (pieceRect 0 p).shape.Idx → Elt F .fp8e4m3)
    (hs : ((buf false).access (pieceRect 0 p)).Stores Finset.univ) (hm : (Finset.univ : Finset (pieceRect 0 p).shape.Idx) = Finset.univ ∨ ∀ a, (pieceRect 0 p).stride a = 1)
    (hw : ∀ j : S1x128x4096.Idx, w j = G m false c ((pieceRect 0 p).emb j)) (K : PUnit → sProp 𝕄) :
    (any false 0 p c : sProp 𝕄) ⊢ iprop((pc false 0 p c fullShare (G m false c) -∗ K ⟨⟩)
      -∗ wpc c (Prog.lift (.store (buf false) (pieceRect 0 p) w Finset.univ hs hm)) K) := by
  have e (f) : ((((c : Thread nD τ).loc cc0_scratch0) ↦[pset 0 p]{fullShare}
      (((buf false).access (pieceRect 0 p) : View sig .tc _ _ _).write (Elt F) f w Finset.univ)) : sProp 𝕄) = pc false 0 p c fullShare (G m false c) := by
    refine (pointsTo_congr fun i hi => ?_).trans (show (((c : Thread nD τ).loc cc0_scratch0) ↦[pset 0 p]{fullShare} (G m false c) : sProp 𝕄) = _ from rfl)
    have hi' : i ∈ ((buf false).access (pieceRect 0 p) : View sig .tc _ _ _).set := by rw [View.set_slice_whole]; exact hi
    obtain ⟨x, -, rfl⟩ := Finset.mem_map.mp hi'
    exact (View.write_emb_of_mem (v := (buf false).access (pieceRect 0 p)) _ _ (Finset.mem_univ x)).trans (hw x)
  unfold any
  iintro ⟨%f, H⟩ HK
  ihave H := (show pc false 0 p c fullShare f ⊢ (((c : Thread nD τ).loc cc0_scratch0) ↦[pset 0 p]{fullShare} f) from .rfl) $$ H
  iapply (wp_store 𝒱₀ (c : Thread nD τ) none Set.univ (m := buf false) (r := pieceRect 0 p) (w := w) (Mk := Finset.univ) (f := f)
    (((View.setOn_univ _).trans (View.set_slice_whole _ _)).subset)) $$ H
  iintro H
  rw [wp_ret]; imodintro
  iapply HK
  rw [← e f]
  iexact H

/-! ## The barrier -/

theorem dvr {c : Dev nD} {n : ℕ} (e : n = (c.val + 1) % 16) (h : n < nD) : (⟨n, h⟩ : Dev nD) = tgt false c := Fin.ext e
theorem dvl {c : Dev nD} {n : ℕ} (e : n = (c.val + 15) % 16) (h : n < nD) : (⟨n, h⟩ : Dev nD) = tgt true c := Fin.ext e

/-- Going round the other way comes back. -/
theorem tgt_opp : ∀ (l : Bool) (c : Dev nD), tgt l (tgt (!l) c) = c := by decide

/-- What the barrier needs: the credit and the position on the own cell, and the right to pay each neighbour's. -/
def BB (c : Dev nD) : sProp 𝕄 :=
  iprop(cred (tallyAt (barCell c) () 2) ∗ atPos ER (barCell c) 0 ∅ 0 ∗ dutyTok ER (barCell (tgt true c)) 0 false ∗ dutyTok ER (barCell (tgt false c)) 0 true)

/-- The tokens and the position of a transfer to be sent. -/
def ST (l : Bool) (h : Fin 8) (p : Fin 2) (c : Dev nD) : sProp 𝕄 :=
  iprop(dutyTok ER (sendCell l h p c) 0 false ∗ dutyTok ER (recvCell l h p (tgt l c)) 0 false ∗ atPos ER (sendCell l h p c) 0 ∅ 0)

theorem SB_intro (l : Bool) (h : Fin 8) (p : Fin 2) (c : Dev nD) : iprop(any l (sl1 h) p (tgt l c) ∗ ST l h p c) ⊢ (SB l h p c : sProp 𝕄) := by
  unfold SB ST
  iintro ⟨H, H1, H2, H3⟩
  isplitl [H]; · iexact H
  isplitl [H1]; · iexact H1
  isplitl [H2]; · iexact H2
  iexact H3

/-- The barrier: the own landing pieces are handed to the two neighbours, theirs are received. -/
theorem wp_enter (c : Dev nD) (K : PUnit → sProp 𝕄) :
    iprop(env m nm ∗ BB c ∗ (land false c ∗ land true c) ∗ ow c (O₀ c))
      ⊢ iprop(((semVal (barCell c) 0 ∗ (land false (tgt false c) ∗ land true (tgt true c)) ∗ ow c (owedL c allSends)) -∗ K ⟨⟩)
        -∗ wpc c (semSignalWord (tgt true c) barS 1#32) fun _ => wpc c (semSignalWord (tgt false c) barS 1#32) fun _ => wpc c (semWaitWord barS 2#32) K) := by
  have hmw : (levAts L lv : sProp 𝕄) ⊢ MayWait (c : Thread nD τ) (.reg barS) () (owedL c allSends) :=
    mayWait_list c _ allSends 1 (lv_cell c none).le (by decide)
  have hd (c' : Dev nD) (d : Bool) : d ∈ (ringRd (F := F) m).duties (barCell c') 0 := by
    rw [show (ringRd (F := F) m).duties (barCell c') 0 = dut none from duties_cell m c' none]; exact Finset.mem_univ _
  have hp0 : (ringRd (F := F) m).payload (barCell (tgt true c)) 0 false = land false c := by
    rw [show (ringRd (F := F) m).payload (barCell (tgt true c)) 0 false = land false (tgt false (tgt true c)) from payload_cell m (tgt true c) none false,
      show tgt false (tgt true c) = c from tgt_opp false c]
  have hp1 : (ringRd (F := F) m).payload (barCell (tgt false c)) 0 true = land true c := by
    rw [show (ringRd (F := F) m).payload (barCell (tgt false c)) 0 true = land true (tgt true (tgt false c)) from payload_cell m (tgt false c) none true,
      show tgt true (tgt false c) = c from tgt_opp true c]
  unfold BB ow
  simp only [semSignalWord, semWaitWord]
  iintro ⟨#HE, ⟨Hcr, Hat, Ht0, Ht1⟩, ⟨HL0, HL1⟩, ⟨%W, HO⟩⟩ HK
  ihave #H := (env_cell m nm (c, none)) $$ HE
  icases H with ⟨HI, -⟩
  ihave #H := (env_cell m nm (tgt true c, none)) $$ HE
  icases H with ⟨HI0, Hr0⟩
  ihave #H := (env_cell m nm (tgt false c, none)) $$ HE
  icases H with ⟨HI1, Hr1⟩
  unfold O₀
  iapply (Rounds.wp_signal 𝒱₀ ER (ringRd m) (c : Thread nD τ) none (dst := (tgt true c : Thread nD τ)) (κ := nm (tgt true c, none))
      (d := false) (hd _ _) ((amount_bar m (tgt true c) false).trans (by decide)) () (O₁ c) rfl) $$ [HO Ht0 HL0]
  · isplitr; · iexact HI0
    isplitl [HO]; · iexact HO
    isplitl [Ht0]; · iexact Ht0
    isplitl [HL0]; · rw [hp0]; iexact HL0
    iexact Hr0
  iintro HO
  rw [wp_ret]; imodintro
  unfold O₁
  iapply (Rounds.wp_signal 𝒱₀ ER (ringRd m) (c : Thread nD τ) none (dst := (tgt false c : Thread nD τ)) (κ := nm (tgt false c, none))
      (d := true) (hd _ _) ((amount_bar m (tgt false c) true).trans (by decide)) () (owedL c allSends) rfl) $$ [HO Ht1 HL1]
  · isplitr; · iexact HI1
    isplitl [HO]; · iexact HO
    isplitl [Ht1]; · iexact Ht1
    isplitl [HL1]; · rw [hp1]; iexact HL1
    iexact Hr1
  iintro HO
  rw [wp_ret]; imodintro
  iapply (Rounds.wp_wait_rest_token 𝒱₀ ER (ringRd m) (c : Thread nD τ) none (κ := nm (c, none))
      (wpE_semWait_eq 𝒱₀ (c : Thread nD τ) none Set.univ) (Set.mem_univ _) () (O := owedL c allSends) (W := W) (R := 0) (m := 0) (T := ∅)
      (by rw [expect_bar]; decide)) $$ [Hcr HO Hat]
  · isplitr; · iexact HI
    isplitl [Hcr]; · iexact Hcr
    isplitl [HO]; · iexact HO
    isplitr; · have hE := (env_lev m nm).trans hmw; iapply hE; iexact HE
    iexact Hat
  iintro ⟨HO, Hat, -, Hpay⟩
  ihave Hp := (Entails.of_eq (rest_bar m c)) $$ Hpay
  imod (Rounds.cell_close ER (ringRd m) (Set.mem_univ (nm (c, none))) (fun h => h) (R := 0 + 1) (duties_later m (barCell c))) $$ [Hat] with Hz
  · isplitr; · iexact HI
    iexact Hat
  rw [wp_ret]; imodintro
  iapply HK
  isplitl [Hz]; · iexact Hz
  isplitl [Hp]; · iexact Hp
  iexists _; iexact HO

/-! ## The beginning -/

/-- The landing pieces of a direction, hop by hop. -/
theorem land_split (l : Bool) (c : Dev nD) :
    (land l c : sProp 𝕄) ⊣⊢ iprop(parts (fun h : Fin 7 => iprop(any l (sl1 (e8 h)) (one l) c ∗ any l (sl1 (e8 h)) (two l) c)) hops7 ∗ any l (sl1 7) (one l) c) := by
  have h := ring_split l (fun h p => any l (sl1 h) p c) (fun _ _ => iprop(emp) : Fin 8 → Fin 2 → sProp 𝕄)
  constructor
  · unfold land
    refine h.1.trans ?_
    iintro ⟨H, H7, -⟩
    isplitl [H]; · iexact H
    iexact H7
  · unfold land
    refine BIBase.Entails.trans ?_ h.2
    iintro ⟨H, H7⟩
    isplitl [H]; · iexact H
    isplitl [H7]; · iexact H7
    iempintro

/-- The landing pieces of the hops after the first. -/
abbrev landRest (l : Bool) (c : Dev nD) : sProp 𝕄 :=
  iprop(parts (fun h : Fin 6 => iprop(any l (sl1 (e8 (hi h))) (one l) c ∗ any l (sl1 (e8 (hi h))) (two l) c)) hops6 ∗ any l (sl1 7) (one l) c)

theorem own_block (c : Dev nD) (j : S256x4096.Idx) :
    xstg m c ((Rect.unit (s := S256x4096) ![0, 0] S256x4096.size inb_S256x4096_S256x4096_0_0).emb j) = xstg m c j := by
  refine congrArg _ (funext fun a => Fin.ext ?_)
  rw [Rect.emb_apply]
  match a with
  | 0 => show 0 + 1 * (j 0).val = _; omega
  | 1 => show 0 + 1 * (j 1).val = _; omega

/-- What is stored into half `p` of slot 0 is what is to lie there. -/
theorem own_piece (c : Dev nD) (p : Fin 2) (off : Fin 2 → ℕ) (hoff : ∀ a, off a + S128x4096.size a ≤ S256x4096.size a) (e : off = ![128 * p.val, 0]) (j : S1x128x4096.Idx) :
    xstg m c ((Rect.unit (s := S256x4096) off S128x4096.size hoff).emb (Shape.pair (j 1) (j 2))) = G m false c ((pieceRect 0 p).emb j) := by
  subst e
  obtain ⟨h0, h1, h2⟩ := piece_place 0 p j
  have e0 : org false c ((pieceRect 0 p).emb j 0) = c := (congrArg (org false c) (show (pieceRect 0 p).emb j 0 = (0 : Fin 9) from Fin.ext h0)).trans (org_zero false c)
  unfold G
  refine Eq.trans ?_ (congrArg (fun d => xstg m d (Shape.pair ((pieceRect 0 p).emb j 1) ((pieceRect 0 p).emb j 2))) e0.symm)
  refine congrArg _ (funext fun a => Fin.ext ?_)
  rw [Rect.emb_apply]
  match a with
  | 0 => show 128 * p.val + 1 * (j 1).val = ((pieceRect 0 p).emb j 1).val; omega
  | 1 => show 0 + 1 * (j 2).val = ((pieceRect 0 p).emb j 2).val; omega

/-- The beginning of the run. -/
theorem wp_start (c : Dev nD) (K : F .f32 → sProp 𝕄) :
    iprop(env m nm ∗ BB c ∗ (land false c ∗ land true c) ∗ (any false 0 0 c ∗ any false 0 1 c) ∗ four (fun l p => ST l 0 p c) ∗ ow c (O₀ c)
        ∗ (xP m c ∗ wP m c ∗ sxP m c ∗ swP m c ∗ outP m c ∅))
      ⊢ iprop(((semVal (barCell c) 0 ∗ (landRest false (tgt false c) ∗ landRest true (tgt true c)) ∗ four (fun l p => SD l 0 p c) ∗ ow c (owedL c (sendsOf hops6))
          ∗ (xP m c ∗ wP m c ∗ sxP m c ∗ swP m c ∗ outP m c (both c ∅))) -∗ K (scl m c))
        -∗ wpc c (start xM (buf false) (buf_whole false) (buf true) (buf_whole true) wM sxM swM oM (sems false false) (sems false true)
          (sems true false) (sems true true) c) K) := by
  unfold start scl
  simp only [wp_bind, wp_pure, dvl (k0_dev1_eq c), dvr (k0_dev2_eq c), dvr (k0_dev3_eq c), dvl (k0_dev4_eq c), dvr (k0_dev5_eq c), dvl (k0_dev6_eq c)]
  iintro ⟨#HE, HB, HL, ⟨P0, P1⟩, ⟨SR0, SR1, SL1, SL0⟩, HO, Hx, Hw, Hsx, Hsw, Ho⟩ HK
  iapply (wp_enter m nm c) $$ [HB HL HO]
  · isplitr; · iexact HE
    isplitl [HB]; · iexact HB
    isplitl [HL]; · iexact HL
    iexact HO
  iintro ⟨Zb, ⟨HL0, HL1⟩, HO⟩
  ihave HL0 := (land_split false (tgt false c)).1 $$ HL0
  ihave HL1 := (land_split true (tgt true c)).1 $$ HL1
  simp only [parts_first]
  icases HL0 with ⟨⟨⟨A0, A1⟩, RA⟩, RA7⟩
  icases HL1 with ⟨⟨⟨B1, B0⟩, RB⟩, RB7⟩
  iapply (wp_load_sx m c) $$ Hsx
  iintro Hsx
  iapply (wp_load_sw m c) $$ Hsw
  iintro Hsw
  iapply (wp_load_x m c) $$ Hx
  iintro Hx
  iapply (wp_load_any 0 0 c) $$ P0
  iintro %y0 P0
  iapply (wp_store_piece m 0 c _ _ _ (fun j => (pay2_at _ j).trans (own_piece m c 0 _ _ rfl j))) $$ P0
  iintro P0
  ihave P0 := (pc_share false 0 0 c (G m false c)).1 $$ P0
  icases P0 with ⟨P0R, P0L⟩
  ihave SR0 := (SB_intro false 0 0 c) $$ [A0 SR0]
  · isplitl [A0]; · iexact A0
    iexact SR0
  iapply (wp_send_piece m nm false false 0 0 c _ rfl rfl (.inl (by decide)) (owedL c ([(true, 0, 1), (false, 0, 1), (true, 0, 0)] ++ sendsLeft 6))) $$ [P0R SR0 HO]
  · isplitr; · iexact HE
    isplitl [P0R]; · iexact P0R
    isplitl [SR0]; · iexact SR0
    iexact HO
  iintro ⟨SR0, HO⟩
  iapply (wp_load_x m c) $$ Hx
  iintro Hx
  iapply (wp_load_any 0 1 c) $$ P1
  iintro %y1 P1
  iapply (wp_store_piece m 1 c _ _ _ (fun j => (pay3_at _ j).trans (own_piece m c 1 _ _ rfl j))) $$ P1
  iintro P1
  ihave P1 := (pc_share false 0 1 c (G m false c)).1 $$ P1
  icases P1 with ⟨P1R, P1L⟩
  ihave SL1 := (SB_intro true 0 1 c) $$ [B1 SL1]
  · isplitl [B1]; · iexact B1
    iexact SL1
  iapply (wp_send_piece m nm true false 0 1 c _ rfl rfl (.inl (by decide)) (owedL c ([(false, 0, 1), (true, 0, 0)] ++ sendsLeft 6))) $$ [P1L SL1 HO]
  · isplitr; · iexact HE
    isplitl [P1L]; · iexact P1L
    isplitl [SL1]; · iexact SL1
    iexact HO
  iintro ⟨SL1, HO⟩
  ihave SR1 := (SB_intro false 0 1 c) $$ [A1 SR1]
  · isplitl [A1]; · iexact A1
    iexact SR1
  iapply (wp_send_piece m nm false false 0 1 c _ rfl rfl (.inl (by decide)) (owedL c ([(true, 0, 0)] ++ sendsLeft 6))) $$ [P1R SR1 HO]
  · isplitr; · iexact HE
    isplitl [P1R]; · iexact P1R
    isplitl [SR1]; · iexact SR1
    iexact HO
  iintro ⟨SR1, HO⟩
  ihave SL0 := (SB_intro true 0 0 c) $$ [B0 SL0]
  · isplitl [B0]; · iexact B0
    iexact SL0
  iapply (wp_send_piece m nm true false 0 0 c _ rfl rfl (.inl (by decide)) (owedL c (sendsLeft 6))) $$ [P0L SL0 HO]
  · isplitr; · iexact HE
    isplitl [P0L]; · iexact P0L
    isplitl [SL0]; · iexact SL0
    iexact HO
  iintro ⟨SL0, HO⟩
  iapply (wp_load_x m c) $$ Hx
  iintro Hx
  iapply (wp_load_w m c) $$ Hw
  iintro Hw
  iapply (wp_load_o m c ∅) $$ Ho
  iintro %yo Ho
  iapply (wp_store_o m c ∅ (both c ∅) _ _ _ _ (fun v hv => fill_256 m c c ∅ v _ _ _ (k0_off1_eq c) (fun i hi => by
    unfold outAt
    rw [if_pos hi]
    unfold scl
    exact congrArg (fun x => k0_pay4 (k0_pay1 (sxstg m c i0) (swstg m c i0)) x (wstg m c) (in256 i)) (funext fun j => own_block m c j)) hv)) $$ Ho
  iintro Ho
  imodintro
  iapply HK
  isplitl [Zb]; · iexact Zb
  isplitl [RA RA7 RB RB7]
  · isplitl [RA RA7]
    · isplitl [RA]; · iexact RA
      iexact RA7
    isplitl [RB]; · iexact RB
    iexact RB7
  isplitl [SR0 SR1 SL1 SL0]
  · isplitl [SR0]; · iexact SR0
    isplitl [SR1]; · iexact SR1
    isplitl [SL1]; · iexact SL1
    iexact SL0
  isplitl [HO]; · iexact HO
  isplitl [Hx]; · iexact Hx
  isplitl [Hw]; · iexact Hw
  isplitl [Hsx]; · iexact Hsx
  isplitl [Hsw]; · iexact Hsw
  iexact Ho

end Cert.KernelIdeal.Own
-- ==== Proof.Ends.lean ====
/- What a device starts with, and what it has at the end, regrouped: the buffers into pieces and back, the transfers
   by hop and by direction. -/
module

public import proofs.«01_k».proof.Proof.Start

@[expose] public section

set_option maxRecDepth 8000

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (nm : Dev nD × Option Q → ℕ)

/-! ## Between the start and the hops -/

/-- What direction `l` receives with: the credits and positions of all its transfers. -/
abbrev RBs (l : Bool) (c : Dev nD) : sProp 𝕄 :=
  iprop(parts (fun h : Fin 7 => iprop(RB l (e8 h) (one l) c ∗ RB l (e8 h) (two l) c)) hops7 ∗ RB l 7 (one l) c)
/-- What direction `l` sends with, after the first hop. -/
abbrev STs (l : Bool) (c : Dev nD) : sProp 𝕄 :=
  iprop(parts (fun h : Fin 6 => iprop(ST l (e8 (hi h)) (one l) c ∗ ST l (e8 (hi h)) (two l) c)) hops6 ∗ ST l 7 (one l) c)
abbrev SBs (l : Bool) (c : Dev nD) : sProp 𝕄 :=
  iprop(parts (fun h : Fin 6 => iprop(SB l (n8 h) (one l) c ∗ SB l (n8 h) (two l) c)) hops6 ∗ SB l 7 (one l) c)

/-- With the landing pieces of the neighbour, direction `l` can send. -/
theorem SBs_intro (l : Bool) (c : Dev nD) : iprop(landRest l (tgt l c) ∗ STs l c) ⊢ (SBs l c : sProp 𝕄) := by
  have h1 := parts_mono (F := F) (A := fun h : Fin 6 => iprop((any l (sl1 (e8 (hi h))) (one l) (tgt l c) ∗ any l (sl1 (e8 (hi h))) (two l) (tgt l c))
      ∗ (ST l (e8 (hi h)) (one l) c ∗ ST l (e8 (hi h)) (two l) c)))
    (B := fun h : Fin 6 => iprop(SB l (n8 h) (one l) c ∗ SB l (n8 h) (two l) c)) (fun h => by
      have s (p : Fin 2) := SB_intro (F := F) l (n8 h) p c
      iintro ⟨⟨A1, A2⟩, B1, B2⟩
      isplitl [A1 B1]
      · iapply (s (one l))
        isplitl [A1]; · iexact A1
        iexact B1
      iapply (s (two l))
      isplitl [A2]; · iexact A2
      iexact B2) hops6
  have h2 := (parts_sep (F := F) (fun h : Fin 6 => iprop(any l (sl1 (e8 (hi h))) (one l) (tgt l c) ∗ any l (sl1 (e8 (hi h))) (two l) (tgt l c)))
    (fun h : Fin 6 => iprop(ST l (e8 (hi h)) (one l) c ∗ ST l (e8 (hi h)) (two l) c)) hops6).1.trans h1
  have h3 := SB_intro (F := F) l 7 (one l) c
  iintro ⟨⟨A, A7⟩, B, B7⟩
  isplitl [A B]
  · iapply h2
    isplitl [A]; · iexact A
    iexact B
  iapply h3
  isplitl [A7]; · iexact A7
  iexact B7

/-- What the hops need. -/
abbrev M1 (c : Dev nD) : sProp 𝕄 :=
  iprop(parts (hopIn c) hops6 ∗ four (fun l p => RB l 6 p c) ∗ (SB false 7 0 c ∗ SB true 7 1 c) ∗ (RB false 7 0 c ∗ RB true 7 1 c))

theorem M1_intro (c : Dev nD) : iprop((RBs false c ∗ SBs false c) ∗ (RBs true c ∗ SBs true c)) ⊢ (M1 c : sProp 𝕄) := by
  have r (l : Bool) := (parts_last (F := F) (fun h : Fin 7 => iprop(RB l (e8 h) (one l) c ∗ RB l (e8 h) (two l) c))).1
  have q (l : Bool) := (parts_sep (F := F) (fun h : Fin 6 => iprop(RB l (e8 (lo h)) (one l) c ∗ RB l (e8 (lo h)) (two l) c))
    (fun h : Fin 6 => iprop(SB l (n8 h) (one l) c ∗ SB l (n8 h) (two l) c)) hops6).1
  have t := (parts_sep (F := F)
    (fun h : Fin 6 => iprop((RB false (e8 (lo h)) (one false) c ∗ RB false (e8 (lo h)) (two false) c) ∗ (SB false (n8 h) (one false) c ∗ SB false (n8 h) (two false) c)))
    (fun h : Fin 6 => iprop((RB true (e8 (lo h)) (one true) c ∗ RB true (e8 (lo h)) (two true) c) ∗ (SB true (n8 h) (one true) c ∗ SB true (n8 h) (two true) c)))
    hops6).1.trans (parts_mono (B := hopIn c) (fun h => by
      iintro ⟨⟨⟨A0, A1⟩, B0, B1⟩, ⟨C1, C0⟩, D1, D0⟩
      isplitl [A0 A1 C1 C0]
      · isplitl [A0]; · iexact A0
        isplitl [A1]; · iexact A1
        isplitl [C1]; · iexact C1
        iexact C0
      isplitl [B0]; · iexact B0
      isplitl [B1]; · iexact B1
      isplitl [D1]; · iexact D1
      iexact D0) hops6)
  iintro ⟨⟨⟨R, R7⟩, S, S7⟩, ⟨T, T7⟩, U, U7⟩
  ihave R := (r false) $$ R
  icases R with ⟨R, R60, R61⟩
  ihave T := (r true) $$ T
  icases T with ⟨T, T61, T60⟩
  ihave RS := (q false) $$ [R S]
  · isplitl [R]; · iexact R
    iexact S
  ihave TU := (q true) $$ [T U]
  · isplitl [T]; · iexact T
    iexact U
  isplitl [RS TU]
  · iapply t
    isplitl [RS]; · iexact RS
    iexact TU
  isplitl [R60 R61 T61 T60]
  · isplitl [R60]; · iexact R60
    isplitl [R61]; · iexact R61
    isplitl [T61]; · iexact T61
    iexact T60
  isplitl [S7 U7]
  · isplitl [S7]; · iexact S7
    iexact U7
  isplitl [R7]; · iexact R7
  iexact T7

/-! ## Between the hops and the end -/

/-- Everything direction `l` received is closed, -/
abbrev recvZ (l : Bool) (c : Dev nD) : sProp 𝕄 :=
  iprop(parts (fun h : Fin 7 => iprop(semVal (recvCell l (e8 h) (one l) c) 0 ∗ semVal (recvCell l (e8 h) (two l) c) 0)) hops7 ∗ semVal (recvCell l 7 (one l) c) 0)
/-- and what of it was not lent on. -/
abbrev keeps (l : Bool) (c : Dev nD) : sProp 𝕄 :=
  iprop(parts (fun h : Fin 7 => iprop(kept m l (e8 h) (one l) c ∗ kept m l (e8 h) (two l) c)) hops7 ∗ got m l 7 (one l) c
    ∗ pc l 7 (two l) c (shr l) (G m l c))

/-- What the hops leave. -/
abbrev M2 (c : Dev nD) : sProp 𝕄 :=
  iprop(parts (hopOut m c) hops6
    ∗ (four (fun l p => semVal (recvCell l 6 p c) 0) ∗ (SD false 7 0 c ∗ SD true 7 1 c) ∗ four (fun l p => kept m l 6 p c)
      ∗ (pc false 7 1 c (shr false) (G m false c) ∗ pc true 7 0 c (shr true) (G m true c)))
    ∗ (semVal (recvCell false 7 0 c) 0 ∗ semVal (recvCell true 7 1 c) 0) ∗ (got m false 7 0 c ∗ got m true 7 1 c))

/-- What a hop leaves, by direction. -/
abbrev outDir (l : Bool) (c : Dev nD) (h : Fin 6) : sProp 𝕄 :=
  iprop((semVal (recvCell l (e8 (lo h)) (one l) c) 0 ∗ semVal (recvCell l (e8 (lo h)) (two l) c) 0)
    ∗ (SD l (e8 (hi h)) (one l) c ∗ SD l (e8 (hi h)) (two l) c) ∗ (kept m l (e8 (lo h)) (one l) c ∗ kept m l (e8 (lo h)) (two l) c))

theorem hopOut_dirs (c : Dev nD) (h : Fin 6) : hopOut m c h ⊢ iprop(outDir m false c h ∗ outDir m true c h) := by
  iintro ⟨⟨Z0, Z1, Z2, Z3⟩, ⟨S0, S1, S2, S3⟩, K0, K1, K2, K3⟩
  isplitl [Z0 Z1 S0 S1 K0 K1]
  · isplitl [Z0 Z1]
    · isplitl [Z0]; · iexact Z0
      iexact Z1
    isplitl [S0 S1]
    · isplitl [S0]; · iexact S0
      iexact S1
    isplitl [K0]; · iexact K0
    iexact K1
  isplitl [Z2 Z3]
  · isplitl [Z2]; · iexact Z2
    iexact Z3
  isplitl [S2 S3]
  · isplitl [S2]; · iexact S2
    iexact S3
  isplitl [K2]; · iexact K2
  iexact K3

/-- One direction after the hops. -/
theorem dir_after (l : Bool) (c : Dev nD) :
    iprop(parts (outDir m l c) hops6
        ∗ (SD l 0 (one l) c ∗ SD l 0 (two l) c)
        ∗ ((semVal (recvCell l 6 (one l) c) 0 ∗ semVal (recvCell l 6 (two l) c) 0) ∗ (kept m l 6 (one l) c ∗ kept m l 6 (two l) c))
        ∗ SD l 7 (one l) c ∗ pc l 7 (two l) c (shr l) (G m l c) ∗ semVal (recvCell l 7 (one l) c) 0 ∗ got m l 7 (one l) c)
      ⊢ iprop(SDs l c ∗ recvZ l c ∗ keeps m l c) := by
  have a1 := (parts_sep (F := F) (fun h : Fin 6 => iprop(semVal (recvCell l (e8 (lo h)) (one l) c) 0 ∗ semVal (recvCell l (e8 (lo h)) (two l) c) 0))
    (fun h : Fin 6 => iprop((SD l (e8 (hi h)) (one l) c ∗ SD l (e8 (hi h)) (two l) c) ∗ (kept m l (e8 (lo h)) (one l) c ∗ kept m l (e8 (lo h)) (two l) c))) hops6).2
  have a2 := (parts_sep (F := F) (fun h : Fin 6 => iprop(SD l (e8 (hi h)) (one l) c ∗ SD l (e8 (hi h)) (two l) c))
    (fun h : Fin 6 => iprop(kept m l (e8 (lo h)) (one l) c ∗ kept m l (e8 (lo h)) (two l) c)) hops6).2
  have z := (parts_last (F := F) (fun h : Fin 7 => iprop(semVal (recvCell l (e8 h) (one l) c) 0 ∗ semVal (recvCell l (e8 h) (two l) c) 0))).2
  have k := (parts_last (F := F) (fun h : Fin 7 => iprop(kept m l (e8 h) (one l) c ∗ kept m l (e8 h) (two l) c))).2
  iintro ⟨P, S0, ⟨Z6, K6⟩, S7, X, Z7, G7⟩
  ihave P := a1 $$ P
  icases P with ⟨Z, P⟩
  ihave P := a2 $$ P
  icases P with ⟨S, K⟩
  isplitl [S0 S S7]
  · isplitl [S0 S]
    · rw [parts_first]
      isplitl [S0]; · iexact S0
      iexact S
    iexact S7
  isplitl [Z Z6 Z7]
  · isplitl [Z Z6]
    · iapply z
      isplitl [Z]; · iexact Z
      iexact Z6
    iexact Z7
  isplitl [K K6]
  · iapply k
    isplitl [K]; · iexact K
    iexact K6
  isplitl [G7]; · iexact G7
  iexact X

theorem M2_elim (c : Dev nD) :
    iprop(M2 m c ∗ four (fun l p => SD l 0 p c)) ⊢ iprop((SDs false c ∗ recvZ false c ∗ keeps m false c) ∗ (SDs true c ∗ recvZ true c ∗ keeps m true c)) := by
  have d := (parts_mono (hopOut_dirs m c) hops6).trans (parts_sep (outDir m false c) (outDir m true c) hops6).2
  have e (l) := dir_after m l c
  iintro ⟨⟨P, ⟨⟨Z0, Z1, Z2, Z3⟩, ⟨S7, T7⟩, ⟨K0, K1, K2, K3⟩, X, Y⟩, ⟨Z7, W7⟩, G7, H7⟩, S0, S1, T1, T0⟩
  ihave P := d $$ P
  icases P with ⟨P, R⟩
  isplitl [P S0 S1 Z0 Z1 K0 K1 S7 X Z7 G7]
  · iapply (e false)
    isplitl [P]; · iexact P
    isplitl [S0 S1]
    · isplitl [S0]; · iexact S0
      iexact S1
    isplitl [Z0 Z1 K0 K1]
    · isplitl [Z0 Z1]
      · isplitl [Z0]; · iexact Z0
        iexact Z1
      isplitl [K0]; · iexact K0
      iexact K1
    isplitl [S7]; · iexact S7
    isplitl [X]; · iexact X
    isplitl [Z7]; · iexact Z7
    iexact G7
  iapply (e true)
  isplitl [R]; · iexact R
  isplitl [T1 T0]
  · isplitl [T1]; · iexact T1
    iexact T0
  isplitl [Z2 Z3 K2 K3]
  · isplitl [Z2 Z3]
    · isplitl [Z2]; · iexact Z2
      iexact Z3
    isplitl [K2]; · iexact K2
    iexact K3
  isplitl [T7]; · iexact T7
  isplitl [Y]; · iexact Y
  isplitl [W7]; · iexact W7
  iexact H7

/-! ## The pieces come back -/

/-- What the departures of direction `l` gave back, after the first hop. -/
abbrev lents (l : Bool) (c : Dev nD) : sProp 𝕄 :=
  iprop(parts (fun h : Fin 6 => iprop(lent m l (e8 (hi h)) (one l) c ∗ lent m l (e8 (hi h)) (two l) c)) hops6 ∗ lent m l 7 (one l) c)

/-- A piece lent on and kept is whole again. -/
theorem lent_back (l : Bool) (h h' : Fin 8) (hh : h'.val = h.val + 1) (p : Fin 2) (c : Dev nD) :
    iprop(lent m l h' p c ∗ kept m l h p c) ⊢ (any l (sl1 h) p c : sProp 𝕄) := by
  have e : sd l h' = l := if_neg (by omega)
  have e' : sl0 h' = sl1 h := Fin.ext hh
  have j := (pc_split l (sl1 h) p c (G m l c)).2
  unfold lent
  rw [e, e']
  iintro H
  iexists (G m l c)
  iapply j; iexact H

/-- The landing pieces of direction `l` are whole again. -/
theorem land_back (l : Bool) (c : Dev nD) : iprop(keeps m l c ∗ lents m l c) ⊢ (land l c : sProp 𝕄) := by
  have k := (parts_last (F := F) (fun h : Fin 7 => iprop(kept m l (e8 h) (one l) c ∗ kept m l (e8 h) (two l) c))).1
  have a := (parts_last (F := F) (fun h : Fin 7 => iprop(any l (sl1 (e8 h)) (one l) c ∗ any l (sl1 (e8 h)) (two l) c))).2
  have q := (parts_sep (F := F) (fun h : Fin 6 => iprop(lent m l (e8 (hi h)) (one l) c ∗ lent m l (e8 (hi h)) (two l) c))
    (fun h : Fin 6 => iprop(kept m l (e8 (lo h)) (one l) c ∗ kept m l (e8 (lo h)) (two l) c)) hops6).1.trans
    (parts_mono (B := fun h : Fin 6 => iprop(any l (sl1 (e8 (lo h))) (one l) c ∗ any l (sl1 (e8 (lo h))) (two l) c)) (fun h => by
      have b (p : Fin 2) := lent_back m l (e8 (lo h)) (e8 (hi h)) rfl p c
      iintro ⟨⟨L1, L2⟩, K1, K2⟩
      isplitl [L1 K1]
      · iapply (b (one l))
        isplitl [L1]; · iexact L1
        iexact K1
      iapply (b (two l))
      isplitl [L2]; · iexact L2
      iexact K2) hops6)
  have b6 := lent_back m l 6 7 rfl (one l) c
  have j := (pc_split l 7 (two l) c (G m l c)).2
  have w := (land_split (F := F) l c).2
  iintro ⟨⟨K, G7, X⟩, LL, L7⟩
  ihave K := k $$ K
  icases K with ⟨K, K61, K62⟩
  iapply w
  isplitr [G7]
  · iapply a
    isplitl [K LL]
    · iapply q
      isplitl [LL]; · iexact LL
      iexact K
    isplitl [L7 K61]
    · iapply b6
      isplitl [L7]; · iexact L7
      iexact K61
    iexists (G m l c)
    iapply j
    isplitl [X]; · iexact X
    iexact K62
  iexists (G m l c)
  iexact G7

/-- What a departure gives back and that its cell is closed, apart. -/
theorem gones_split (l : Bool) (c : Dev nD) :
    gones m l c ⊢ iprop((parts (fun h : Fin 7 => iprop(semVal (sendCell l (e8 h) (one l) c) 0 ∗ semVal (sendCell l (e8 h) (two l) c) 0)) hops7
        ∗ semVal (sendCell l 7 (one l) c) 0) ∗ (lent m l 0 (one l) c ∗ lent m l 0 (two l) c) ∗ lents m l c) := by
  have q := (parts_mono (F := F) (A := fun h : Fin 7 => iprop(gone m l (e8 h) (one l) c ∗ gone m l (e8 h) (two l) c))
    (B := fun h : Fin 7 => iprop((semVal (sendCell l (e8 h) (one l) c) 0 ∗ semVal (sendCell l (e8 h) (two l) c) 0)
      ∗ (lent m l (e8 h) (one l) c ∗ lent m l (e8 h) (two l) c))) (fun h => by
      iintro ⟨⟨Z1, L1⟩, Z2, L2⟩
      isplitl [Z1 Z2]
      · isplitl [Z1]; · iexact Z1
        iexact Z2
      isplitl [L1]; · iexact L1
      iexact L2) hops7).trans (parts_sep (F := F) (fun h : Fin 7 => iprop(semVal (sendCell l (e8 h) (one l) c) 0 ∗ semVal (sendCell l (e8 h) (two l) c) 0))
        (fun h : Fin 7 => iprop(lent m l (e8 h) (one l) c ∗ lent m l (e8 h) (two l) c)) hops7).2
  have f := Entails.of_eq (parts_first (F := F) (fun h : Fin 7 => iprop(lent m l (e8 h) (one l) c ∗ lent m l (e8 h) (two l) c)))
  iintro ⟨P, Z7, L7⟩
  ihave P := q $$ P
  icases P with ⟨Z, LL⟩
  ihave LL := f $$ LL
  icases LL with ⟨L0, LL⟩
  isplitl [Z Z7]
  · isplitl [Z]; · iexact Z
    iexact Z7
  isplitl [L0]; · iexact L0
  isplitl [LL]; · iexact LL
  iexact L7

/-! ## A buffer is its pieces -/

/-- The buffer of direction `l` on device `c`, at any contents. -/
def scr (l : Bool) (c : Dev nD) : sProp 𝕄 :=
  match l with
  | false => iprop(∃ f : Buf (Elt F) ((c : Thread nD τ).loc cc0_scratch0), ((c : Thread nD τ).loc cc0_scratch0) ↦{fullShare} f)
  | true => iprop(∃ f : Buf (Elt F) ((c : Thread nD τ).loc cc0_scratch1), ((c : Thread nD τ).loc cc0_scratch1) ↦{fullShare} f)

/-- All pieces at one contents are the buffer at it. -/
theorem whole_pieces (ℓ : Loc nD τ sig) (K : Fin 9 × Fin 2 → Finset (Idx ℓ)) (hd : ∀ a b, a ≠ b → Disjoint (K a) (K b))
    (hc : (Finset.univ : Finset (Fin 9 × Fin 2)).biUnion K = Finset.univ) (f : Buf (Elt F) ℓ) :
    (ℓ ↦{fullShare} f : sProp 𝕄) ⊣⊢ iprop(bigSep Finset.univ fun a => ℓ ↦[K a]{fullShare} f) := by
  rw [← hc]
  exact ⟨Entails.of_eq (pointsTo_biUnion _ _ (fun a _ b _ h => hd a b h)), Entails.of_eq (pointsTo_biUnion _ _ (fun a _ b _ h => hd a b h)).symm⟩

/-- Pieces at any contents are the buffer at some. -/
theorem pieces_whole (ℓ : Loc nD τ sig) (K : Fin 9 × Fin 2 → Finset (Idx ℓ)) (hd : ∀ a b, a ≠ b → Disjoint (K a) (K b))
    (hc : (Finset.univ : Finset (Fin 9 × Fin 2)).biUnion K = Finset.univ) (f₀ : Buf (Elt F) ℓ) :
    (bigSep Finset.univ fun a => iprop(∃ f : Buf (Elt F) ℓ, ℓ ↦[K a]{fullShare} f) : sProp 𝕄) ⊢ iprop(∃ f : Buf (Elt F) ℓ, ℓ ↦{fullShare} f) := by
  haveI : ∀ _ : Fin 9 × Fin 2, Nonempty (Buf (Elt F) ℓ) := fun _ => ⟨f₀⟩
  have h1 := BI.bigSep_exists_pi (Finset.univ : Finset (Fin 9 × Fin 2)) (fun a (f : Buf (Elt F) ℓ) => (ℓ ↦[K a]{fullShare} f : sProp 𝕄))
  iintro H
  ihave H := h1 $$ H
  icases H with ⟨%fs, H⟩
  have h2 := pointsTo_biUnion_join (q := fullShare) (Ix := Unit) (Name := ℕ) (U := UU) (Lvl := ℕ) Finset.univ K fs f₀ (fun a _ b _ h => hd a b h)
  ihave H := h2 $$ H
  icases H with ⟨%g, -, H⟩
  iexists g
  rw [hc]
  iexact H

include m in
/-- A buffer at any contents is all its pieces, each at any contents. -/
theorem scr_all (l : Bool) (c : Dev nD) : (scr l c : sProp 𝕄) ⊣⊢ bigSep Finset.univ fun a : Fin 9 × Fin 2 => any l a.1 a.2 c := by
  have e (a : Fin 9 × Fin 2) (f) : (pc l a.1 a.2 c fullShare f : sProp 𝕄) ⊢ any l a.1 a.2 c := by iintro H; iexists f; iexact H
  cases l
  · constructor
    · unfold scr
      iintro ⟨%f, H⟩
      have w := (whole_pieces (F := F) ((c : Thread nD τ).loc cc0_scratch0) (fun a => pset a.1 a.2) pset_disjoint pset_cover f).1.trans
        (bigSep_mono (fun a _ => e a f))
      iapply w; iexact H
    · exact pieces_whole (F := F) ((c : Thread nD τ).loc cc0_scratch0) (fun a => pset a.1 a.2) pset_disjoint pset_cover (G m false c)
  · constructor
    · unfold scr
      iintro ⟨%f, H⟩
      have w := (whole_pieces (F := F) ((c : Thread nD τ).loc cc0_scratch1) (fun a => pset a.1 a.2) pset_disjoint pset_cover f).1.trans
        (bigSep_mono (fun a _ => e a f))
      iapply w; iexact H
    · exact pieces_whole (F := F) ((c : Thread nD τ).loc cc0_scratch1) (fun a => pset a.1 a.2) pset_disjoint pset_cover (G m true c)

/-- Nine slots are the first and the eight that are landed in. -/
theorem big_nine (A : Fin 9 → sProp 𝕄) :
    (bigSep Finset.univ A : sProp 𝕄) ⊣⊢ iprop(A 0 ∗ parts (fun h : Fin 7 => A (sl1 (e8 h))) hops7 ∗ A 8) := by
  rw [parts_big [0, 1, 2, 3, 4, 5, 6, 7, 8] (by decide) (by decide) A]
  have s := parts_snoc A 8 [1, 2, 3, 4, 5, 6, 7]
  exact ⟨BIClass.sep_mono .rfl s.1, BIClass.sep_mono .rfl s.2⟩

include m in
/-- A buffer: slot 0, the pieces landed in, and the half of slot 8 that is not. -/
theorem scr_split (l : Bool) (c : Dev nD) :
    (scr l c : sProp 𝕄) ⊣⊢ iprop((any l 0 (one l) c ∗ any l 0 (two l) c) ∗ land l c ∗ any l 8 (two l) c) := by
  have a := scr_all m l c
  rw [bigSep_univ_prod] at a
  have t (k : Fin 9) := big_two (F := F) l (fun p => any l k p c)
  have n := big_nine (F := F) (fun k => bigSep Finset.univ fun p : Fin 2 => any l k p c)
  have s := land_split (F := F) l c
  have f1 := parts_mono (F := F) (fun h : Fin 7 => (t (sl1 (e8 h))).1) hops7
  have f2 := parts_mono (F := F) (fun h : Fin 7 => (t (sl1 (e8 h))).2) hops7
  have t0 := t 0
  have t8 := t 8
  constructor
  · iintro H
    ihave H := (a.1.trans n.1) $$ H
    icases H with ⟨H0, H, H8⟩
    ihave H0 := t0.1 $$ H0
    ihave H8 := t8.1 $$ H8
    ihave H := f1 $$ H
    icases H8 with ⟨H8, X⟩
    isplitl [H0]; · iexact H0
    isplitl [H H8]
    · iapply s.2
      isplitl [H]; · iexact H
      iexact H8
    iexact X
  · iintro ⟨H0, H, X⟩
    ihave H := s.1 $$ H
    icases H with ⟨H, H8⟩
    iapply (n.2.trans a.2)
    isplitl [H0]
    · iapply t0.2; iexact H0
    isplitl [H]
    · iapply f2; iexact H
    iapply t8.2
    isplitl [H8]; · iexact H8
    iexact X

end Cert.KernelIdeal.Own
-- ==== Proof.Body.lean ====
/- The whole body on one device: what it starts from, and what it ends with. -/
module

public import proofs.«01_k».proof.Proof.Ends

@[expose] public section

set_option maxRecDepth 8000

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (nm : Dev nD × Option Q → ℕ)

/-! ## The hops and the end, as one program -/

/-- The program after the beginning. -/
def rest (w : Memref sig .tc .vmem S4096x128 .fp8e4m3) (o : Memref sig .tc .vmem S4096x128 .f32)
    (a5 : Slots) (h5 : a5.IsWhole) (a6 : Slots) (h6 : a6.IsWhole) (sr rr sL rL : DmaSems sig S8x2) (d : Dev nD) (s : F .f32) :
    Prog (TpuEff nD τ sig (Elt F) Λ₀ .tc) PUnit := do
  hop 0 a5 h5 a6 h6 a5 h5 w o sr rr sL rL s d ⟨k0_dev7 d, k0_dev7_lt d⟩ ⟨k0_dev8 d, k0_dev8_lt d⟩ ⟨k0_dev9 d, k0_dev9_lt d⟩ ⟨k0_dev10 d, k0_dev10_lt d⟩
  hop 1 a5 h5 a6 h6 a6 h6 w o sr rr sL rL s d ⟨k0_dev11 d, k0_dev11_lt d⟩ ⟨k0_dev12 d, k0_dev12_lt d⟩ ⟨k0_dev13 d, k0_dev13_lt d⟩ ⟨k0_dev14 d, k0_dev14_lt d⟩
  hop 2 a5 h5 a6 h6 a6 h6 w o sr rr sL rL s d ⟨k0_dev15 d, k0_dev15_lt d⟩ ⟨k0_dev16 d, k0_dev16_lt d⟩ ⟨k0_dev17 d, k0_dev17_lt d⟩ ⟨k0_dev18 d, k0_dev18_lt d⟩
  hop 3 a5 h5 a6 h6 a6 h6 w o sr rr sL rL s d ⟨k0_dev19 d, k0_dev19_lt d⟩ ⟨k0_dev20 d, k0_dev20_lt d⟩ ⟨k0_dev21 d, k0_dev21_lt d⟩ ⟨k0_dev22 d, k0_dev22_lt d⟩
  hop 4 a5 h5 a6 h6 a6 h6 w o sr rr sL rL s d ⟨k0_dev23 d, k0_dev23_lt d⟩ ⟨k0_dev24 d, k0_dev24_lt d⟩ ⟨k0_dev25 d, k0_dev25_lt d⟩ ⟨k0_dev26 d, k0_dev26_lt d⟩
  hop 5 a5 h5 a6 h6 a6 h6 w o sr rr sL rL s d ⟨k0_dev27 d, k0_dev27_lt d⟩ ⟨k0_dev28 d, k0_dev28_lt d⟩ ⟨k0_dev29 d, k0_dev29_lt d⟩ ⟨k0_dev30 d, k0_dev30_lt d⟩
  hop6 a5 h5 a6 h6 w o sr rr sL rL s d ⟨k0_dev31 d, k0_dev31_lt d⟩ ⟨k0_dev32 d, k0_dev32_lt d⟩
  hop7 a5 h5 a6 h6 w o rr rL s d
  finish a5 h5 a6 h6 sr sL

theorem body_eq_rest (a0 : Memref sig .tc .vmem S256x4096 .fp8e4m3) (w : Memref sig .tc .vmem S4096x128 .fp8e4m3)
    (a2 a3 : Memref sig .tc .smem S1 .f32) (o : Memref sig .tc .vmem S4096x128 .f32)
    (a5 : Slots) (h5 : a5.IsWhole) (a6 : Slots) (h6 : a6.IsWhole) (sr rr sL rL : DmaSems sig S8x2) :
    body (F := F) a0 w a2 a3 o a5 h5 a6 h6 sr rr sL rL
      = Prog.lift .deviceId >>= fun d => start a0 a5 h5 a6 h6 w a2 a3 o sr rr sL rL d >>= fun s => rest w o a5 h5 a6 h6 sr rr sL rL d s := rfl

/-- The row groups computed by the end. -/
abbrev allRows (c : Dev nD) : Finset (Fin 32) := insert (opp c 1) (insert (opp c 0) (grow c 6 (growL c hops6 (both c ∅))))

theorem allRows_univ : ∀ c : Dev nD, allRows c = Finset.univ := by decide +kernel

theorem wp_rest (c : Dev nD) (K : PUnit → sProp 𝕄) :
    iprop(env m nm ∗ (M1 c ∗ four (fun l p => SD l 0 p c)) ∗ ow c (owedL c (sendsOf hops6)) ∗ wP m c ∗ outP m c (both c ∅))
      ⊢ iprop(((((gones m false c ∗ recvZ false c ∗ keeps m false c) ∗ (gones m true c ∗ recvZ true c ∗ keeps m true c))
            ∗ ow c 0 ∗ wP m c ∗ outP m c (allRows c)) -∗ K ⟨⟩)
        -∗ wpc c (rest wM oM (buf false) (buf_whole false) (buf true) (buf_whole true) (sems false false) (sems false true)
          (sems true false) (sems true true) c (scl m c)) K) := by
  have e : wpc c (rest wM oM (buf false) (buf_whole false) (buf true) (buf_whole true) (sems false false) (sems false true)
          (sems true false) (sems true true) c (scl m c)) K
      = wrounds m c (wpc c (hop6 (buf false) (buf_whole false) (buf true) (buf_whole true) wM oM (sems false false) (sems false true)
          (sems true false) (sems true true) (scl m c) c (tgt false c) (tgt true c)) fun _ =>
        wpc c (hop7 (buf false) (buf_whole false) (buf true) (buf_whole true) wM oM (sems false true) (sems true true) (scl m c) c) fun _ =>
        wpc c (finish (F := F) (buf false) (buf_whole false) (buf true) (buf_whole true) (sems false false) (sems true false)) K) hops6 := by
    unfold rest
    simp only [wp_bind, dvr (k0_dev7_eq c), dvr (k0_dev8_eq c), dvl (k0_dev9_eq c), dvl (k0_dev10_eq c),
      dvr (k0_dev11_eq c), dvr (k0_dev12_eq c), dvl (k0_dev13_eq c), dvl (k0_dev14_eq c),
      dvr (k0_dev15_eq c), dvr (k0_dev16_eq c), dvl (k0_dev17_eq c), dvl (k0_dev18_eq c),
      dvr (k0_dev19_eq c), dvr (k0_dev20_eq c), dvl (k0_dev21_eq c), dvl (k0_dev22_eq c),
      dvr (k0_dev23_eq c), dvr (k0_dev24_eq c), dvl (k0_dev25_eq c), dvl (k0_dev26_eq c),
      dvr (k0_dev27_eq c), dvr (k0_dev28_eq c), dvl (k0_dev29_eq c), dvl (k0_dev30_eq c),
      dvr (k0_dev31_eq c), dvl (k0_dev32_eq c)]
    rfl
  rw [e]
  have x := M2_elim m c
  iintro ⟨#HE, ⟨⟨HH, R6, S7, R7⟩, SD0⟩, HO, Hw, Ho⟩ HK
  iapply (wp_rounds m nm c _ hops6 (by decide) (both c ∅)) $$ [HH HO Hw Ho]
  · isplitr; · iexact HE
    isplitl [HH]; · iexact HH
    isplitl [HO]; · iexact HO
    isplitl [Hw]; · iexact Hw
    iexact Ho
  iintro ⟨HH, HO, Hw, Ho⟩
  iapply (wp_hop6 m nm c _ _ rfl rfl (growL c hops6 (both c ∅))) $$ [R6 S7 HO Hw Ho]
  · isplitr; · iexact HE
    isplitl [R6]; · iexact R6
    isplitl [S7]; · iexact S7
    isplitl [HO]; · iexact HO
    isplitl [Hw]; · iexact Hw
    iexact Ho
  iintro ⟨Z6, S7, K6, X7, HO, Hw, Ho⟩
  iapply (wp_hop7 m nm c _) $$ [R7 HO Hw Ho]
  · isplitr; · iexact HE
    isplitl [R7]; · iexact R7
    isplitl [HO]; · iexact HO
    isplitl [Hw]; · iexact Hw
    iexact Ho
  iintro ⟨Z7, G7, HO, Hw, Ho⟩
  ihave X := x $$ [HH Z6 S7 K6 X7 Z7 G7 SD0]
  · isplitr [SD0]
    · isplitl [HH]; · iexact HH
      isplitl [Z6 S7 K6 X7]
      · isplitl [Z6]; · iexact Z6
        isplitl [S7]; · iexact S7
        isplitl [K6]; · iexact K6
        iexact X7
      isplitl [Z7]; · iexact Z7
      iexact G7
    iexact SD0
  icases X with ⟨⟨A1, A2, A3⟩, B1, B2, B3⟩
  iapply (wp_finish m nm c) $$ [A1 B1 HO]
  · isplitr; · iexact HE
    isplitl [A1 B1]
    · isplitl [A1]; · iexact A1
      iexact B1
    iexact HO
  iintro ⟨⟨A1, B1⟩, HO⟩
  iapply HK
  isplitl [A1 A2 A3 B1 B2 B3]
  · isplitl [A1 A2 A3]
    · isplitl [A1]; · iexact A1
      isplitl [A2]; · iexact A2
      iexact A3
    isplitl [B1]; · iexact B1
    isplitl [B2]; · iexact B2
    iexact B3
  isplitl [HO]; · iexact HO
  isplitl [Hw]; · iexact Hw
  iexact Ho

/-! ## What a device starts from -/

/-- For a transfer there is: what its arrival and its departure need. -/
def RS (l : Bool) (h : Fin 8) (p : Fin 2) (c : Dev nD) : sProp 𝕄 := iprop(RB l h p c ∗ ST l h p c)
/-- For the one there is not: the positions on its two cells. -/
def UN (l : Bool) (h : Fin 8) (p : Fin 2) (c : Dev nD) : sProp 𝕄 :=
  iprop(atPos ER (recvCell l h p c) 0 ∅ 0 ∗ atPos ER (sendCell l h p c) 0 ∅ 0)

/-- All of a direction. -/
def dirP (l : Bool) (c : Dev nD) : sProp 𝕄 :=
  bigSep Finset.univ fun h : Fin 8 => bigSep Finset.univ fun p : Fin 2 => if used l h p then RS l h p c else UN l h p c

theorem dirP_elim (l : Bool) (c : Dev nD) :
    (dirP l c : sProp 𝕄) ⊢ iprop(RBs l c ∗ (ST l 0 (one l) c ∗ ST l 0 (two l) c) ∗ STs l c ∗ UN l 7 (two l) c) := by
  have s := (ring_split (F := F) l (fun h p => RS l h p c) (fun h p => UN l h p c)).1
  have q := (parts_mono (F := F) (A := fun h : Fin 7 => iprop(RS l (e8 h) (one l) c ∗ RS l (e8 h) (two l) c))
    (B := fun h : Fin 7 => iprop((RB l (e8 h) (one l) c ∗ RB l (e8 h) (two l) c) ∗ (ST l (e8 h) (one l) c ∗ ST l (e8 h) (two l) c))) (fun h => by
      unfold RS
      iintro ⟨⟨Z1, L1⟩, Z2, L2⟩
      isplitl [Z1 Z2]
      · isplitl [Z1]; · iexact Z1
        iexact Z2
      isplitl [L1]; · iexact L1
      iexact L2) hops7).trans (parts_sep (F := F) (fun h : Fin 7 => iprop(RB l (e8 h) (one l) c ∗ RB l (e8 h) (two l) c))
        (fun h : Fin 7 => iprop(ST l (e8 h) (one l) c ∗ ST l (e8 h) (two l) c)) hops7).2
  have f := Entails.of_eq (parts_first (F := F) (fun h : Fin 7 => iprop(ST l (e8 h) (one l) c ∗ ST l (e8 h) (two l) c)))
  unfold dirP
  iintro H
  ihave H := s $$ H
  icases H with ⟨P, H7, HU⟩
  ihave P := q $$ P
  icases P with ⟨R, S⟩
  ihave S := f $$ S
  icases S with ⟨S0, S⟩
  unfold RS
  icases H7 with ⟨R7, S7⟩
  isplitl [R R7]
  · isplitl [R]; · iexact R
    iexact R7
  isplitl [S0]; · iexact S0
  isplitl [S S7]
  · isplitl [S]; · iexact S
    iexact S7
  iexact HU

/-- The cells of the transfer there is not are closed. -/
theorem unused_close (l : Bool) (c : Dev nD) :
    iprop(env m nm ∗ UN l 7 (two l) c) ⊢ iprop(|={Set.univ}=> (semVal (recvCell l 7 (two l) c) 0 ∗ semVal (sendCell l 7 (two l) c) 0)) := by
  have hu : ¬ used l 7 (two l) := by cases l <;> decide
  unfold UN
  iintro ⟨#HE, HR, HS⟩
  ihave #H := (env_cell m nm (c, some (l, true, 7, two l))) $$ HE
  icases H with ⟨HI0, -⟩
  ihave #H := (env_cell m nm (c, some (l, false, 7, two l))) $$ HE
  icases H with ⟨HI1, -⟩
  imod (Rounds.cell_close ER (ringRd m) (Set.mem_univ (nm (c, some (l, true, 7, two l)))) (fun h => h) (R := 0) (duties_unused m l true 7 (two l) c hu)) $$ [HR] with Z0
  · isplitr; · iexact HI0
    iexact HR
  imod (Rounds.cell_close ER (ringRd m) (Set.mem_univ (nm (c, some (l, false, 7, two l)))) (fun h => h) (R := 0) (duties_unused m l false 7 (two l) c hu)) $$ [HS] with Z1
  · isplitr; · iexact HI1
    iexact HS
  imodintro
  isplitl [Z0]; · iexact Z0
  iexact Z1

/-- All transfers' semaphores of device `c` are zero. -/
def semsZ (c : Dev nD) : sProp 𝕄 := bigSep Finset.univ fun q : Q => semVal (kcell (c, some q)) 0

/-- The sixteen cells of a direction, of sending or of receiving. -/
theorem sems_dir (l r : Bool) (c : Dev nD) :
    iprop((parts (fun h : Fin 7 => iprop(semVal (kcell (c, some (l, r, e8 h, one l))) 0 ∗ semVal (kcell (c, some (l, r, e8 h, two l))) 0)) hops7
        ∗ semVal (kcell (c, some (l, r, 7, one l))) 0) ∗ semVal (kcell (c, some (l, r, 7, two l))) 0)
      ⊢ (bigSep Finset.univ fun h : Fin 8 => bigSep Finset.univ fun p : Fin 2 => semVal (kcell (c, some (l, r, h, p))) 0 : sProp 𝕄) := by
  have s := (ring_split (F := F) l (fun h p => semVal (kcell (c, some (l, r, h, p))) 0) (fun h p => semVal (kcell (c, some (l, r, h, p))) 0)).2
  simp only [ite_self] at s
  refine BIBase.Entails.trans ?_ s
  iintro ⟨⟨H, H7⟩, HU⟩
  isplitl [H]; · iexact H
  isplitl [H7]; · iexact H7
  iexact HU

theorem big_bool (A : Bool → sProp 𝕄) : iprop(A false ∗ A true) ⊢ (bigSep Finset.univ A : sProp 𝕄) := by
  rw [parts_big [false, true] (by decide) (by decide) A]
  simp only [parts]
  iintro ⟨H0, H1⟩
  isplitl [H0]; · iexact H0
  isplitl [H1]; · iexact H1
  iempintro

theorem semsZ_intro (c : Dev nD) (A : Bool → Bool → sProp 𝕄)
    (h : ∀ l r, A l r ⊢ (bigSep Finset.univ fun h : Fin 8 => bigSep Finset.univ fun p : Fin 2 => semVal (kcell (c, some (l, r, h, p))) 0 : sProp 𝕄)) :
    iprop((A false false ∗ A false true) ∗ (A true false ∗ A true true)) ⊢ (semsZ c : sProp 𝕄) := by
  unfold semsZ
  rw [bigSep_univ_prod]
  refine BIBase.Entails.trans (BIClass.sep_mono ?_ ?_) (big_bool _)
  · rw [bigSep_univ_prod]
    refine BIBase.Entails.trans (BIClass.sep_mono ?_ ?_) (big_bool _)
    · rw [bigSep_univ_prod]; exact h false false
    · rw [bigSep_univ_prod]; exact h false true
  · rw [bigSep_univ_prod]
    refine BIBase.Entails.trans (BIClass.sep_mono ?_ ?_) (big_bool _)
    · rw [bigSep_univ_prod]; exact h true false
    · rw [bigSep_univ_prod]; exact h true true

/-! ## The body -/

/-- What a device holds of its own to start with. -/
def startP (c : Dev nD) : sProp 𝕄 := iprop(BB c ∗ dirP false c ∗ dirP true c)

theorem piece_any (l : Bool) (k : Fin 9) (p : Fin 2) (c : Dev nD) (f : S9x256x4096.Idx → Elt F .fp8e4m3) :
    iprop(pc l k p c fullShare.left f ∗ pc l k p c fullShare.right f) ⊢ (any l k p c : sProp 𝕄) := by
  have h := (pc_share l k p c f).2
  iintro H
  iexists f
  iapply h; iexact H

theorem wp_body (c : Dev nD) (K : PUnit → sProp 𝕄) :
    iprop(env m nm ∗ startP c ∗ (scr false c ∗ scr true c) ∗ ow c (O₀ c) ∗ (xP m c ∗ wP m c ∗ sxP m c ∗ swP m c ∗ outP m c ∅))
      ⊢ iprop((((scr false c ∗ scr true c) ∗ semsZ c ∗ semVal (barCell c) 0 ∗ ow c 0
          ∗ (xP m c ∗ wP m c ∗ sxP m c ∗ swP m c ∗ outP m c Finset.univ)) -∗ K ⟨⟩)
        -∗ wpc c (body xM wM sxM swM oM (buf false) (buf_whole false) (buf true) (buf_whole true) (sems false false) (sems false true)
          (sems true false) (sems true true)) K) := by
  have hs (l) := scr_split m l c
  have hd (l) := dirP_elim (F := F) l c
  have hb (l) := SBs_intro (F := F) l c
  have h1 := M1_intro (F := F) c
  have hg (l) := gones_split m l c
  have hl (l) := land_back m l c
  have hu (l) := unused_close m nm l c
  have hz := semsZ_intro (F := F) c _ (fun l r => sems_dir l r c)
  have p0 (p : Fin 2) := piece_any false 0 p c (G m false c)
  rw [body_eq_rest]
  simp only [wp_bind, Prog.lift, wp_deviceId, wp_ret]
  unfold startP
  iintro ⟨#HE, ⟨HB, HD0, HD1⟩, ⟨HS0, HS1⟩, HO, Hx, Hw, Hsx, Hsw, Ho⟩ HK
  ihave HS0 := (hs false).1 $$ HS0
  ihave HS1 := (hs true).1 $$ HS1
  icases HS0 with ⟨P, HL0, P8⟩
  icases HS1 with ⟨T0, HL1, T8⟩
  ihave HD0 := (hd false) $$ HD0
  ihave HD1 := (hd true) $$ HD1
  icases HD0 with ⟨R0, ⟨S00, S01⟩, S0, U0⟩
  icases HD1 with ⟨R1, ⟨S11, S10⟩, S1, U1⟩
  imod (hu false) $$ [U0] with ⟨V0, W0⟩
  · isplitr; · iexact HE
    iexact U0
  imod (hu true) $$ [U1] with ⟨V1, W1⟩
  · isplitr; · iexact HE
    iexact U1
  imodintro
  iapply (wp_start m nm c) $$ [HB HL0 HL1 P S00 S01 S11 S10 HO Hx Hw Hsx Hsw Ho]
  · isplitr; · iexact HE
    isplitl [HB]; · iexact HB
    isplitl [HL0 HL1]
    · isplitl [HL0]; · iexact HL0
      iexact HL1
    isplitl [P]; · iexact P
    isplitl [S00 S01 S11 S10]
    · isplitl [S00]; · iexact S00
      isplitl [S01]; · iexact S01
      isplitl [S11]; · iexact S11
      iexact S10
    isplitl [HO]; · iexact HO
    isplitl [Hx]; · iexact Hx
    isplitl [Hw]; · iexact Hw
    isplitl [Hsx]; · iexact Hsx
    isplitl [Hsw]; · iexact Hsw
    iexact Ho
  iintro ⟨Zb, ⟨HL0, HL1⟩, SD0, HO, Hx, Hw, Hsx, Hsw, Ho⟩
  ihave B0 := (hb false) $$ [HL0 S0]
  · isplitl [HL0]; · iexact HL0
    iexact S0
  ihave B1 := (hb true) $$ [HL1 S1]
  · isplitl [HL1]; · iexact HL1
    iexact S1
  ihave M := h1 $$ [R0 B0 R1 B1]
  · isplitl [R0 B0]
    · isplitl [R0]; · iexact R0
      iexact B0
    isplitl [R1]; · iexact R1
    iexact B1
  iapply (wp_rest m nm c) $$ [M SD0 HO Hw Ho]
  · isplitr; · iexact HE
    isplitl [M SD0]
    · isplitl [M]; · iexact M
      iexact SD0
    isplitl [HO]; · iexact HO
    isplitl [Hw]; · iexact Hw
    iexact Ho
  iintro ⟨⟨⟨A1, A2, A3⟩, B1, B2, B3⟩, HO, Hw, Ho⟩
  ihave A1 := (hg false) $$ A1
  ihave B1 := (hg true) $$ B1
  icases A1 with ⟨ZA, ⟨LA0, LA1⟩, LA⟩
  icases B1 with ⟨ZB, ⟨LB1, LB0⟩, LB⟩
  iapply HK
  isplitl [LA0 LA1 LB1 LB0 A3 LA B3 LB P8 T0 T8]
  · isplitl [LA0 LA1 LB1 LB0 A3 LA P8]
    · iapply (hs false).2
      isplitl [LA0 LA1 LB1 LB0]
      · isplitl [LA0 LB0]
        · iapply (p0 0)
          isplitl [LA0]; · iexact LA0
          iexact LB0
        iapply (p0 1)
        isplitl [LA1]; · iexact LA1
        iexact LB1
      isplitl [A3 LA]
      · iapply (hl false)
        isplitl [A3]; · iexact A3
        iexact LA
      iexact P8
    iapply (hs true).2
    isplitl [T0]; · iexact T0
    isplitl [B3 LB]
    · iapply (hl true)
      isplitl [B3]; · iexact B3
      iexact LB
    iexact T8
  isplitl [ZA W0 A2 V0 ZB W1 B2 V1]
  · iapply hz
    isplitl [ZA W0 A2 V0]
    · isplitl [ZA W0]
      · isplitl [ZA]; · iexact ZA
        iexact W0
      isplitl [A2]; · iexact A2
      iexact V0
    isplitl [ZB W1]
    · isplitl [ZB]; · iexact ZB
      iexact W1
    isplitl [B2]; · iexact B2
    iexact V1
  isplitl [Zb]; · iexact Zb
  isplitl [HO]; · iexact HO
  isplitl [Hx]; · iexact Hx
  isplitl [Hw]; · iexact Hw
  isplitl [Hsx]; · iexact Hsx
  isplitl [Hsw]; · iexact Hsw
  rw [← allRows_univ c]
  iexact Ho

end Cert.KernelIdeal.Own
-- ==== Proof.Obligation.lean ====
/- The pipeline's data of the launch, and that the body meets its obligation. -/
module

public import proofs.«01_k».proof.Proof.Body

@[expose] public section

set_option maxRecDepth 8000

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What device `c` holds before the body: what is known of all cells, what it starts with, and both buffers; -/
def Φ₀ (c : Dev nD) : sProp 𝕄 := iprop((∃ nm, env m nm) ∗ startP c ∗ (scr false c ∗ scr true c))
/-- and after it: both buffers, and every counter zero. -/
def Φ₁ (c : Dev nD) : sProp 𝕄 := iprop((scr false c ∗ scr true c) ∗ semsZ c ∗ semVal (barCell c) 0)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => sxstg m c
    | ⟨3, _⟩ => swstg m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_in : ∀ (w : Fin 5), w ≠ 4 → (cfg0.win w).fetch t0_0 = true := by decide

/-- A staging buffer whole, its contents an equation. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem stg_intro (c : Dev nD) (b : Ref sig .tc) (X : b.ty.Contents (Elt F)) : (((c : Thread nD τ).loc b) ↦{fullShare} X : sProp 𝕄) ⊢ stg c b X := by
  iintro H
  iexists _
  isplitr; · (ipureintro; rfl)
  iexact H

def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () t0_0.succ ∗ stg c cc0_stg0_0 (xstg m c) ∗ stg c cc0_stg1_0 (wstg m c)
    ∗ stg c cc0_stg2_0 (sxstg m c) ∗ stg c cc0_stg3_0 (swstg m c) ∗ stg c cc0_stg4_0 (outAt m c))

/-- The body, from what the pipeline hands it to what the pipeline takes back. -/
theorem sound_body (c : Dev nD) :
    bodyPre m ρ c ⊢ wpc c (body xM wM sxM swM oM (buf false) (buf_whole false) (buf true) (buf_whole true) (sems false false) (sems false true)
          (sems true false) (sems true true)) fun _ => bodyPost m ρ c := by
  have i (b : Ref sig .tc) (X : b.ty.Contents (Elt F)) := stg_intro c b X
  unfold bodyPre Φ₀
  iintro ⟨⟨⟨%nm, #HE⟩, HS, HB⟩, HO, ⟨%d0, %g0, %h0, Hx⟩, ⟨%d1, %g1, %h1, Hw⟩, ⟨%d2, %g2, %h2, Hsx⟩, ⟨%d3, %g3, %h3, Hsw⟩, ⟨%d4, %g4, %h4, Ho⟩⟩
  have e0 : g0 = xstg m c := by rw [h0]; unfold Pipeline.Dat.before; rw [if_pos (fetch_in 0 (by decide))]; rfl
  have e1 : g1 = wstg m c := by rw [h1]; unfold Pipeline.Dat.before; rw [if_pos (fetch_in 1 (by decide))]; rfl
  have e2 : g2 = sxstg m c := by rw [h2]; unfold Pipeline.Dat.before; rw [if_pos (fetch_in 2 (by decide))]; rfl
  have e3 : g3 = swstg m c := by rw [h3]; unfold Pipeline.Dat.before; rw [if_pos (fetch_in 3 (by decide))]; rfl
  subst e0 e1 e2 e3
  unfold Pipeline.Dat.owesAt Pipeline.owesWithin
  icases HO with ⟨%W, %hW, HO⟩
  rw [show (dats m ρ 0 c).owed t0_0.castSucc = O₀ c from rfl]
  iapply (wp_body m nm c) $$ [HS HB HO Hx Hw Hsx Hsw Ho]
  · isplitr; · iexact HE
    isplitl [HS]; · iexact HS
    isplitl [HB]; · iexact HB
    isplitl [HO]
    · unfold ow; iexists W; iexact HO
    isplitl [Hx]; · unfold xP; iexact Hx
    isplitl [Hw]; · unfold wP; iexact Hw
    isplitl [Hsx]; · unfold sxP; iexact Hsx
    isplitl [Hsw]; · unfold swP; iexact Hsw
    unfold outP
    iexists g4
    isplitr; · (ipureintro; exact fun _ h => absurd h (Finset.notMem_empty _))
    iexact Ho
  iintro ⟨HB, HZ, Hz, HO, Hx, Hw, Hsx, Hsw, Ho⟩
  unfold ow outP xP wP sxP swP
  icases HO with ⟨%W', HO⟩
  icases Ho with ⟨%v, %hv, Ho⟩
  have ev : v = outAt m c := funext fun j => hv j (Finset.mem_univ _)
  subst ev
  unfold bodyPost Φ₁ Pipeline.Dat.owesAt Pipeline.owesWithin
  rw [show (dats m ρ 0 c).owed t0_0.succ = 0 from rfl]
  isplitl [HB HZ Hz]
  · isplitl [HB]; · iexact HB
    isplitl [HZ]; · iexact HZ
    iexact Hz
  isplitl [HO]
  · iexists W'
    isplitr; · (ipureintro; exact fun _ _ => Or.inl trivial)
    iexact HO
  isplitl [Hx]; · iapply (i cc0_stg0_0); iexact Hx
  isplitl [Hw]; · iapply (i cc0_stg1_0); iexact Hw
  isplitl [Hsx]; · iapply (i cc0_stg2_0); iexact Hsx
  isplitl [Hsw]; · iapply (i cc0_stg3_0); iexact Hsw
  iapply (i cc0_stg4_0); iexact Ho

/-- The program at the only point is the body at the staging buffers. -/
theorem at_point : cc0_body (F := F) xM (Memref.isWhole_whole _) wM (Memref.isWhole_whole _) sxM (Memref.isWhole_whole _) swM (Memref.isWhole_whole _) oM (Memref.isWhole_whole _)
      (buf false) (buf_whole false) (buf true) (buf_whole true) (sems false false) (sems false true) (sems true false) (sems true true)
    = defs₀ (F := F) Proc.tc 0 (t0_0, cfg0.slots t0_0) := rfl

/-- What holds after the body, in the library's words. -/
theorem post_eq (c : Dev nD) : (fun _ : PUnit => bodyPost m ρ c) = fun _ : PUnit =>
      iprop((dats m ρ 0 c).Φ t0_0.succ ∗ (dats m ρ 0 c).owesAt () t0_0.succ ∗ stg c cc0_stg0_0 ((dats m ρ 0 c).after 0 t0_0)
        ∗ stg c cc0_stg1_0 ((dats m ρ 0 c).after 1 t0_0) ∗ stg c cc0_stg2_0 ((dats m ρ 0 c).after 2 t0_0)
        ∗ stg c cc0_stg3_0 ((dats m ρ 0 c).after 3 t0_0) ∗ stg c cc0_stg4_0 ((dats m ρ 0 c).after 4 t0_0)) := rfl

/-- The body keeps its part of the launch on device `c`. -/
theorem body_obligation (c : Dev nD) : Pipeline.BodyObligation (dats (F := F) m ρ 0 c) (defs₀ (F := F)) 𝒱₀ () Set.univ := fun t => by
  rw [show t = t0_0 from fin_N0 t]
  rw [bigSep_W0, bigSep_W0]
  simp only [owns_whole_eq]
  refine BIBase.Entails.trans (Q := bodyPre m ρ c) (Entails.of_eq ?_) ?_
  · rfl
  have h := sound_body m ρ c
  rw [← cc0_body_eq xM (Memref.isWhole_whole _) wM (Memref.isWhole_whole _) sxM (Memref.isWhole_whole _) swM (Memref.isWhole_whole _) oM (Memref.isWhole_whole _),
    at_point, post_eq] at h
  refine BIBase.Entails.trans h (Entails.of_eq ?_)
  unfold wpc
  congr 1

end Cert.KernelIdeal.Own
-- ==== Proof.Deal.lean ====
/- What the launch deals each device: the positions, tokens and credits it starts with, from those of the cells. -/
module

public import proofs.«01_k».proof.Proof.Obligation

@[expose] public section

set_option maxRecDepth 8000

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over the cells of a device -/

omit [FloatOps F] in
/-- Over all cells of a device: the barrier's, and the transfers'. -/
theorem big_cells (A : Option Q → sProp 𝕄) :
    bigSep Finset.univ A = iprop(A none ∗ bigSep Finset.univ fun q : Q => A (some q)) := by
  rw [bigSep_univ_equiv ((Equiv.sumComm _ _).trans (Equiv.optionEquivSumPUnit.{0} Q).symm) A, bigSep_univ_sum, bigSep_univ_of_subsingleton PUnit.unit.{1}]
  rfl

omit [FloatOps F] in
theorem bool_split (A : Bool → sProp 𝕄) : (bigSep Finset.univ A : sProp 𝕄) = iprop(A false ∗ A true) := by
  rw [bigSep_univ_eq_bigSepL [false, true] (by decide) (by decide), bigSepL_cons_cons, bigSepL_singleton]
  rfl

omit [FloatOps F] in
/-- Over all transfers of a device: by direction, then for each hop and half the cell of departure with the cell of arrival. -/
theorem big_transfers (A : Q → sProp 𝕄) :
    bigSep Finset.univ A = bigSep Finset.univ fun l : Bool => bigSep Finset.univ fun h : Fin 8 => bigSep Finset.univ fun p : Fin 2 =>
      iprop(A (l, false, h, p) ∗ A (l, true, h, p)) := by
  rw [bigSep_univ_prod]
  refine bigSep_congr fun l _ => ?_
  rw [bigSep_univ_prod, bool_split, bigSep_univ_prod, bigSep_univ_prod, ← bigSep_sep']
  exact bigSep_congr fun h _ => (bigSep_sep' _ _ _).symm

/-! ## Tokens -/

/-- The tokens of a cell, one per Boolean, -/
def toks (c : Dev nD) : sProp 𝕄 :=
  bigSep Finset.univ fun k : Option Q => bigSep Finset.univ fun d : Bool => dutyTok ER (kcell (c, k)) 0 d

/-- the token of the payment a device makes for `q`: on its own cell of departure, on the neighbour's cell of arrival, -/
abbrev payer (q : Q) (c : Dev nD) : Dev nD := if q.2.1 then tgt q.1 c else c

/-- and what a device starts with, but for its credits. -/
def lin (c : Dev nD) : sProp 𝕄 :=
  iprop((atPos ER (barCell c) 0 ∅ 0 ∗ dutyTok ER (barCell (tgt true c)) 0 false ∗ dutyTok ER (barCell (tgt false c)) 0 true)
    ∗ (bigSep Finset.univ fun q : Q => atPos ER (kcell (c, some q)) 0 ∅ 0)
    ∗ bigSep Finset.univ fun q : Q => dutyTok ER (kcell (payer q c, some q)) 0 false)

omit [FloatOps F] in
/-- For each `q` every device pays one device. -/
theorem around_payer (q : Q) (A : Dev nD → sProp 𝕄) :
    bigSep Finset.univ A = bigSep Finset.univ fun c => A (payer q c) := by
  obtain ⟨l, r, h, p⟩ := q
  cases r
  · rfl
  · exact bigSep_univ_equiv (around l) A

omit [FloatOps F] in
/-- The cells' tokens, dealt to the devices that pay. -/
theorem toks_dealt : (bigSep Finset.univ fun c : Dev nD => (toks c : sProp 𝕄))
    ⊢ iprop((bigSep Finset.univ fun c : Dev nD => iprop(dutyTok ER (barCell (tgt true c)) 0 false ∗ dutyTok ER (barCell (tgt false c)) 0 true))
      ∗ bigSep Finset.univ fun c : Dev nD => bigSep Finset.univ fun q : Q => dutyTok ER (kcell (payer q c, some q)) 0 false) := by
  have e (c : Dev nD) : (toks c : sProp 𝕄) ⊢ iprop((dutyTok ER (barCell c) 0 false ∗ dutyTok ER (barCell c) 0 true)
      ∗ bigSep Finset.univ fun q : Q => dutyTok ER (kcell (c, some q)) 0 false) := by
    unfold toks
    rw [big_cells, bool_split]
    exact BIClass.sep_mono BIBase.Entails.refl (bigSep_mono fun q _ => bigSep_elim (Finset.mem_univ false))
  refine BIBase.Entails.trans (bigSep_mono fun c _ => e c) (Entails.of_eq ?_)
  rw [bigSep_sep', bigSep_sep', bigSep_sep', bigSep_univ_equiv (around true) (fun c : Dev nD => (dutyTok ER (barCell c) 0 false : sProp 𝕄)),
    bigSep_univ_equiv (around false) (fun c : Dev nD => (dutyTok ER (barCell c) 0 true : sProp 𝕄)),
    bigSep_univ_comm, bigSep_congr (fun (q : Q) _ => around_payer q (fun c => (dutyTok ER (kcell (c, some q)) 0 false : sProp 𝕄))), bigSep_univ_comm]
  rfl

/-! ## Credits -/

/-- What device `d` owes the cell of arrival `(l, h, p)` of device `c`: what it sends there. -/
theorem owedL_recv (l : Bool) (h : Fin 8) (p : Fin 2) (c d : Dev nD) (t : List Snd) :
    owedL d t (recvCell l h p c) () = if d = frm l c then N * t.count (l, h, p) else 0 := by
  induction t with
  | nil => rw [List.count_nil, Nat.mul_zero, ite_self]; rfl
  | cons a t ih =>
    obtain ⟨l', h', p'⟩ := a
    unfold owedL
    rw [Pi.add_apply, Finsupp.add_apply, ih, tallyAt_apply, List.count_cons]
    by_cases hd : d = frm l c
    · by_cases ha : ((l', h', p') : Snd) = (l, h, p)
      · cases ha
        rw [if_pos hd, if_pos hd, if_pos ⟨by rw [hd, tgt_frm], rfl⟩, if_pos (by exact beq_self_eq_true _), Nat.mul_add, Nat.mul_one]
      · rw [if_pos hd, if_pos hd, if_neg (fun e => ha ?_), if_neg (fun e => ha (by exact eq_of_beq e)), Nat.mul_add, Nat.mul_zero]
        have e := Option.some.inj (congrArg Prod.snd (kcell_injective e.1))
        cases e; rfl
    · rw [if_neg hd, if_neg hd, if_neg (fun e => hd ?_)]
      have e := kcell_injective e.1
      have e1 := congrArg Prod.fst e
      have e2 := congrArg Prod.fst (Option.some.inj (congrArg Prod.snd e))
      dsimp only at e1 e2
      subst e2
      rw [e1, frm_tgt]

/-- Every transfer is made once. -/
theorem count_all : ∀ (l : Bool) (h : Fin 8) (p : Fin 2), used l h p → allSends.count (l, h, p) = 1 := by decide +kernel

theorem recv_ne_bar (l : Bool) (h : Fin 8) (p : Fin 2) (c d : Dev nD) : recvCell l h p c ≠ barCell d := fun e => by
  have e := congrArg Prod.snd (kcell_injective e); cases e

theorem owed_recv (l : Bool) (h : Fin 8) (p : Fin 2) (hu : used l h p) (c d : Dev nD) :
    O₀ d (recvCell l h p c) () = if d = frm l c then N else 0 := by
  unfold O₀ O₁
  rw [Pi.add_apply, Finsupp.add_apply, Pi.add_apply, Finsupp.add_apply, owedL_recv, count_all l h p hu, Nat.mul_one,
    tallyAt_ne_cell (recv_ne_bar l h p _ _), tallyAt_ne_cell (recv_ne_bar l h p _ _), Finsupp.zero_apply, Nat.add_zero, Nat.add_zero]

theorem owedL_bar (c d : Dev nD) (t : List Snd) : owedL d t (barCell c) () = 0 := by
  induction t with
  | nil => rfl
  | cons a t ih =>
    unfold owedL
    rw [Pi.add_apply, Finsupp.add_apply, ih]
    unfold ot
    rw [tallyAt_ne_cell (fun e => recv_ne_bar _ _ _ _ _ e.symm), Finsupp.zero_apply, Nat.add_zero]

/-- What device `d` owes the barrier of device `c`: a unit if it is a neighbour, by the side it is on. -/
theorem owed_bar (c d : Dev nD) : O₀ d (barCell c) () = (if d = frm false c then 1 else 0) + if d = frm true c then 1 else 0 := by
  have e (l : Bool) : (tallyAt (barCell (tgt l d)) () 1 : CellTallies nD τ sig Unit) (barCell c) () = if d = frm l c then 1 else 0 := by
    rw [tallyAt_apply]
    by_cases hd : d = frm l c
    · rw [if_pos hd, if_pos ⟨by rw [hd, tgt_frm], rfl⟩]
    · rw [if_neg hd, if_neg fun e => hd (by rw [show c = tgt l d from congrArg Prod.fst (kcell_injective e.1), frm_tgt])]
  unfold O₀ O₁
  rw [Pi.add_apply, Finsupp.add_apply, Pi.add_apply, Finsupp.add_apply, owedL_bar, e, e, Nat.zero_add]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar c d, Finset.sum_add_distrib,
    Finset.sum_ite_eq' Finset.univ (frm false c) fun _ => 1, Finset.sum_ite_eq' Finset.univ (frm true c) fun _ => 1,
    if_pos (Finset.mem_univ _), if_pos (Finset.mem_univ _)]

theorem launch_recv (l : Bool) (h : Fin 8) (p : Fin 2) (hu : used l h p) (c : Dev nD) :
    tallyOn (recvCell l h p c) (launchCredit (Pipeline.owing O₀) 0 (recvCell l h p c)) = (tallyAt (recvCell l h p c) () N : CellTallies nD τ sig Unit) := by
  unfold tallyAt; refine congrArg _ (Finsupp.ext fun u => ?_); cases u
  rw [Pipeline.launchCredit_owing, Finsupp.single_eq_same, Finset.sum_congr rfl fun d _ => owed_recv l h p hu c d,
    Finset.sum_ite_eq' Finset.univ (frm l c) fun _ => N, if_pos (Finset.mem_univ _)]

/-- The credit of a transfer's cell: for an arrival there is, what one piece's transfer credits. -/
def crq (c : Dev nD) (q : Q) : sProp 𝕄 :=
  if q.2.1 ∧ used q.1 q.2.2.1 q.2.2.2 then cred (tallyAt (kcell (c, some q)) () N) else iprop(emp)

omit [FloatOps F] in
/-- A device's credits at launch. -/
theorem creds (c : Dev nD) :
    (Pipeline.launchCred O₀ c : sProp 𝕄) ⊢ iprop(cred (tallyAt (barCell c) () 2) ∗ bigSep Finset.univ (crq c)) := by
  have e : (Pipeline.launchCred O₀ c : sProp 𝕄) ⊢ bigSep Finset.univ fun k : Option Q =>
      cred (tallyOn (kcell (c, k)) (launchCredit (Pipeline.owing O₀) 0 (kcell (c, k)))) := by
    unfold Pipeline.launchCred
    refine BIBase.Entails.trans (bigSep_subset (Finset.subset_univ (Finset.univ.map ⟨csem, csem_injective⟩))) ?_
    rw [bigSep_map]
    exact BIBase.Entails.refl
  refine BIBase.Entails.trans e ?_
  rw [big_cells, launch_bar]
  refine BIClass.sep_mono BIBase.Entails.refl (bigSep_mono fun q _ => ?_)
  obtain ⟨l, r, h, p⟩ := q
  unfold crq
  split
  · rename_i hq
    obtain ⟨hr, hu⟩ := hq
    dsimp only at hr hu
    subst hr
    rw [← launch_recv l h p hu]
    exact BIBase.Entails.refl (PROP := sProp 𝕄)
  · show (_ : sProp 𝕄) ⊢ (iprop(emp) : sProp 𝕄)
    iintro -; iempintro

/-! ## What a device starts with -/

/-- Its positions, tokens and credits are what the body asks for. -/
theorem startP_intro (c : Dev nD) :
    iprop(lin c ∗ cred (tallyAt (barCell c) () 2) ∗ bigSep Finset.univ (crq c)) ⊢ (startP c : sProp 𝕄) := by
  have e : iprop((bigSep Finset.univ fun q : Q => atPos ER (kcell (c, some q)) 0 ∅ 0)
      ∗ (bigSep Finset.univ fun q : Q => dutyTok ER (kcell (payer q c, some q)) 0 false) ∗ bigSep Finset.univ (crq c))
      ⊢ (iprop(dirP false c ∗ dirP true c) : sProp 𝕄) := by
    rw [← bigSep_sep', ← bigSep_sep', big_transfers, ← bool_split (fun l => dirP l c)]
    refine bigSep_mono fun l _ => ?_
    unfold dirP
    refine bigSep_mono fun h _ => bigSep_mono fun p _ => ?_
    unfold crq
    by_cases hu : used l h p
    · rw [if_pos hu, if_neg (fun h => by cases h.1), if_pos ⟨rfl, hu⟩]
      unfold RS RB ST
      show (_ : sProp 𝕄) ⊢ _
      iintro ⟨⟨A0, D0, -⟩, A1, D1, C⟩
      isplitl [A1 C]
      · isplitl [C]; · iexact C
        iexact A1
      isplitl [D0]; · iexact D0
      isplitl [D1]; · iexact D1
      iexact A0
    · rw [if_neg hu]
      unfold UN
      show (_ : sProp 𝕄) ⊢ _
      iintro ⟨⟨A0, -, -⟩, A1, -, -⟩
      isplitl [A1]; · iexact A1
      iexact A0
  unfold lin startP BB
  iintro ⟨⟨⟨AB, D0, D1⟩, A, D⟩, CB, C⟩
  isplitl [AB D0 D1 CB]
  · isplitl [CB]; · iexact CB
    isplitl [AB]; · iexact AB
    isplitl [D0]; · iexact D0
    iexact D1
  iapply e
  isplitl [A]; · iexact A
  isplitl [D]; · iexact D
  iexact C

end Cert.KernelIdeal.Own
-- ==== Proof.Launch.lean ====
/- The launch: the cells funded, the tokens dealt, and the run of the whole program. -/
module

public import proofs.«01_k».proof.Proof.Deal
public import Idealize.ShloMosaic.Lib.Pipeline.CollectiveSegs

@[expose] public section

set_option maxRecDepth 8000

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The transfers' semaphores are the kernel's own. -/
abbrev osem (q : Q) : SemLoc sig := .dma (qsem q)

theorem staging_lt : ∀ (w : Fin cfg0.W) (s : Fin (cfg0.win w).nbuf), ((cfg0.win w).sem s).val < 5 := by decide +kernel

theorem qsem_ge (q : Q) : 5 ≤ (qsem q).val := by rw [qsem_val]; omega

theorem ownSemFacts : Pipeline.OwnSemFacts cfg0.spec osem where
  isScoped := by decide +kernel
  inj := fun q q' h => qsem_injective (SemLoc.dma.inj h)
  disj := fun q w s h => by
    have h1 := qsem_ge q
    rw [SemLoc.dma.inj h] at h1
    exact absurd (staging_lt w s) (Nat.not_lt.mpr h1)

/-- A staging semaphore is no cell of the protocol. -/
theorem cellOf?_staging (w : Fin cfg0.W) (s : Fin (cfg0.win w).nbuf) : cellOf? (.dma ((cfg0.win w).sem s)) = none := by
  unfold cellOf? Function.partialInv
  refine dif_neg ?_
  rintro ⟨_ | q, h⟩
  · cases h
  · exact ownSemFacts.disj q w s h

theorem share_eq (c : Dev nD) (w : Fin cfg0.W) : (dats m ρ 0 c).share w = fullShare := by
  unfold Pipeline.Dat.share; split <;> rfl

/-! ## The cells and their tokens -/

/-- All cells of the protocol; -/
def allCells : Finset (GSem nD τ sig) := Finset.univ.map ⟨kcell, kcell_injective⟩

/-- a token of a cell. -/
abbrev tok (x : (Dev nD × Option Q) × Bool) : GSem nD τ sig × ℕ × Bool := (kcell x.1, 0, x.2)

theorem tok_injective : Function.Injective tok := fun x y h =>
  Prod.ext (kcell_injective (congrArg (fun z : GSem nD τ sig × ℕ × Bool => z.1) h)) (congrArg (fun z : GSem nD τ sig × ℕ × Bool => z.2.2) h)

def allToks : Finset (GSem nD τ sig × ℕ × Bool) := Finset.univ.map ⟨tok, tok_injective⟩

def u₀ : UU := (initOf (Pipeline.cells cfgs cellOf_inj) (Pipeline.launchToks cfgs cellOf_inj), initOf allCells allToks)

/-- What each device is dealt before the cells are set up; -/
def dealt (c : Dev nD) : sProp 𝕄 :=
  iprop((bigSep Finset.univ fun k : Option Q => roundState ER (ringRd m) (kcell (c, k)) 0)
    ∗ (bigSep Finset.univ fun k : Option Q => reached ER (kcell (c, k)) 0)
    ∗ (bigSep Finset.univ fun k : Option Q => atPos ER (kcell (c, k)) 0 ∅ 0) ∗ toks c)

/-- what it holds of the cells afterwards; -/
def held (c : Dev nD) : sProp 𝕄 :=
  iprop((bigSep Finset.univ fun k : Option Q => iprop(∃ n : ℕ, cellInv ER (ringRd m) n (kcell (c, k))))
    ∗ (bigSep Finset.univ fun k : Option Q => reached ER (kcell (c, k)) 0)
    ∗ (bigSep Finset.univ fun k : Option Q => atPos ER (kcell (c, k)) 0 ∅ 0) ∗ toks c)

/-- what is known of all cells; -/
def known (nm : Dev nD × Option Q → ℕ) : sProp 𝕄 :=
  bigSep Finset.univ fun ck : Dev nD × Option Q => iprop(cellInv ER (ringRd m) (nm ck) (kcell ck) ∗ reached ER (kcell ck) 0)

instance known_persistent (nm : Dev nD × Option Q → ℕ) : BI.Persistent (known m nm) := by unfold known; infer_instance

/-- and with what it goes into the body. -/
def goes (c : Dev nD) : sProp 𝕄 := iprop((∃ nm, known m nm) ∗ lin c)

theorem fund_cells : BI.own (ER (initOf allCells allToks)) ⊢ (|==> bigSep Finset.univ (dealt m) : sProp 𝕄) := by
  have hC (A : GSem nD τ sig → sProp 𝕄) : bigSep allCells A = bigSep Finset.univ fun c : Dev nD => bigSep Finset.univ fun k : Option Q => A (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod, bigSep_univ_prod]; rfl
  refine BIBase.Entails.trans (Rounds.fund ER (ringRd m) allCells allToks) (BI.bupd_mono ?_)
  rw [hC, hC, hC, hT, ← bigSep_sep', ← bigSep_sep', ← bigSep_sep']
  exact BIBase.Entails.refl (PROP := sProp 𝕄)

theorem unscoped_eq (c : Dev nD) : (unscopedSems0 c : sProp 𝕄) = semVal (barCell c) 0 := by
  unfold unscopedSems0; rw [bigSep_eq_bigSepL_of_eq [SemLoc.reg barS] (by decide) (by decide)]; rfl

/-- Each device sets up its own cells. -/
theorem set_up (c : Dev nD) :
    iprop(Pipeline.ownSems0 (Ix := Unit) (Name := ℕ) (U := UU) (Lvl := ℕ) (Val := Elt F) (τ := τ) osem c ∗ unscopedSems0 c ∗ dealt m c)
      ⊢ |={Set.univ}=> held m c := by
  have hz : iprop(Pipeline.ownSems0 (Ix := Unit) (Name := ℕ) (U := UU) (Lvl := ℕ) (Val := Elt F) (τ := τ) osem c ∗ unscopedSems0 c)
      ⊢ (bigSep Finset.univ fun k : Option Q => semVal (kcell (c, k)) 0 : sProp 𝕄) := by
    rw [unscoped_eq, big_cells]
    unfold Pipeline.ownSems0
    iintro ⟨A, B⟩
    isplitl [B]; · iexact B
    iexact A
  have hi : iprop((bigSep Finset.univ fun k : Option Q => semVal (kcell (c, k)) 0) ∗ bigSep Finset.univ fun k : Option Q => roundState ER (ringRd m) (kcell (c, k)) 0)
      ⊢ (|={Set.univ}=> bigSep Finset.univ fun k : Option Q => iprop(∃ n : ℕ, cellInv ER (ringRd m) n (kcell (c, k))) : sProp 𝕄) := by
    rw [← bigSep_sep']
    exact (bigSep_mono fun k _ => (Rounds.body_intro ER (ringRd m) (kcell (c, k))).trans inv_alloc).trans (bigSep_fupd _ _)
  unfold dealt held
  iintro ⟨Ho, Hu, Hs, R⟩
  ihave Hz := hz $$ [Ho Hu]
  · isplitl [Ho]; · iexact Ho
    iexact Hu
  imod hi $$ [Hz Hs] with HI
  · isplitl [Hz]; · iexact Hz
    iexact Hs
  imodintro
  isplitl [HI]; · iexact HI
  iexact R

/-- What all devices hold together, dealt out again. -/
theorem deal_out : (bigSep Finset.univ (held m) : sProp 𝕄) ⊢ bigSep Finset.univ (goes m) := by
  have hr (nm : Dev nD × Option Q → ℕ) : iprop((bigSep Finset.univ fun ck : Dev nD × Option Q => cellInv ER (ringRd m) (nm ck) (kcell ck))
      ∗ bigSep Finset.univ fun ck : Dev nD × Option Q => reached ER (kcell ck) 0) ⊢ known m nm := by
    unfold known; rw [bigSep_sep']
  have hx := BI.bigSep_exists_pi Finset.univ (fun (ck : Dev nD × Option Q) (n : ℕ) => (cellInv ER (ringRd m) n (kcell ck) : sProp 𝕄))
  have hl : iprop((bigSep Finset.univ fun c : Dev nD => bigSep Finset.univ fun k : Option Q => atPos ER (kcell (c, k)) 0 ∅ 0)
      ∗ bigSep Finset.univ fun c : Dev nD => toks c) ⊢ (bigSep Finset.univ fun c : Dev nD => lin c : sProp 𝕄) := by
    have ht := toks_dealt (F := F)
    rw [bigSep_sep'] at ht
    unfold lin
    rw [bigSep_congr (fun (c : Dev nD) _ => big_cells (fun k => (atPos ER (kcell (c, k)) 0 ∅ 0 : sProp 𝕄))), bigSep_sep', bigSep_sep', bigSep_sep', bigSep_sep', bigSep_sep']
    iintro ⟨⟨AB, A⟩, T⟩
    ihave T := ht $$ T
    icases T with ⟨TB, T⟩
    isplitl [AB TB]
    · isplitl [AB]; · iexact AB
      iexact TB
    isplitl [A]; · iexact A
    iexact T
  have hg (nm : Dev nD × Option Q → ℕ) : iprop(known m nm ∗ bigSep Finset.univ fun c : Dev nD => lin c) ⊢ (bigSep Finset.univ (goes m) : sProp 𝕄) := by
    have e (c : Dev nD) : iprop(known m nm ∗ lin c) ⊢ goes m c := by
      unfold goes
      iintro ⟨K, H⟩
      isplitl [K]; · (iexists nm; iexact K)
      iexact H
    have p := BI.bigSep_of_persistent (Finset.univ : Finset (Dev nD)) (known m nm)
    refine BIBase.Entails.trans (BIClass.sep_mono p BIBase.Entails.refl) ?_
    rw [← bigSep_sep']
    exact bigSep_mono fun c _ => e c
  unfold held
  rw [bigSep_sep', bigSep_sep', bigSep_sep', ← bigSep_univ_prod (fun ck : Dev nD × Option Q => iprop(∃ n : ℕ, cellInv ER (ringRd m) n (kcell ck))),
    ← bigSep_univ_prod (fun ck : Dev nD × Option Q => (reached ER (kcell ck) 0 : sProp 𝕄))]
  iintro ⟨HI, HR, HA, HT⟩
  ihave HI := hx $$ HI
  icases HI with ⟨%nm, HI⟩
  iapply (hg nm)
  isplitl [HI HR]
  · iapply (hr nm)
    isplitl [HI]; · iexact HI
    iexact HR
  iapply hl
  isplitl [HA]; · iexact HA
  iexact HT

/-- Both steps, for all devices at once. -/
theorem all_set_up : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (goes m) :=
  ((bigSep_mono fun c _ => set_up m c).trans (bigSep_fupd _ _)).trans (BI.fupd_mono (deal_out m))

/-! ## Into the body and out of it -/

/-- With what a device goes in, its credits and the levels added. -/
def ready (c : Dev nD) : sProp 𝕄 := iprop((∃ nm, env m nm) ∗ startP c)

theorem ready_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ goes m c)
      ⊢ |={Set.univ}=> iprop(ready m c ∗ emp) := by
  have hc := creds (F := F) c
  have hs := startP_intro (F := F) c
  have he (nm : Dev nD × Option Q → ℕ) : iprop(known m nm ∗ levAts L lv) ⊢ env m nm := BIBase.Entails.refl
  unfold goes
  iintro ⟨-, Hlev, Hcr, -, ⟨%nm, HK⟩, HL⟩
  ihave Hc := hc $$ Hcr
  imodintro
  isplitl
  · unfold ready
    isplitl [HK Hlev]
    · iexists nm
      iapply (he nm)
      isplitl [HK]; · iexact HK
      iexact Hlev
    iapply hs
    isplitl [HL]; · iexact HL
    iexact Hc
  · iempintro

theorem enters (c : Dev nD) :
    iprop(ready m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold ready Φ₀ scr
  iintro ⟨⟨HE, HS⟩, -, HR⟩
  isplitl [HE]; · iexact HE
  isplitl [HS]; · iexact HS
  iexact HR

theorem leaves (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscoped_eq]
  unfold Φ₁ scr semsZ Pipeline.ownSems0
  iintro ⟨HR, HZ, HB⟩
  isplitl [HB]; · iexact HB
  isplitl [HZ]; · iexact HZ
  iexact HR

theorem waits (c : Dev nD) : (levAts L lv : sProp 𝕄) ⊢ Pipeline.cellsWaits cfgs (dats m ρ) () 0 c :=
  Pipeline.cellsWaits_intro cfgs (dats m ρ) () 0 c fun w s t =>
    mayWait_stage c _ (cellOf?_staging w s) _ (by
      rcases t with ⟨_ | _, ht⟩
      · exact Or.inl rfl
      · exact Or.inr rfl)

/-! ## The run -/

/-- What array `w` of device `c` ends with. -/
def finalA (c : Dev nD) (w : Fin cfg0.W) : Buf (Elt F) ((cfg0.win w).arr.view.loc (c : Thread nD τ)) := (dats m ρ 0 c).arrAt w cfg0.N

def ends : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters every weakly fair execution of the sixteen devices ends, with every array as computed
    and every counter zero. -/
theorem run_main : θ_run defs (onTc (τ := τ) (main (F := F))) (s₀ m ρ) (fun r => ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m) (G' := goes m) (u₀ := u₀)
    (hu₀ := by
      have hf := fund_cells m
      unfold u₀
      iintro Hu
      ihave H := (ownU_pair _ _) $$ Hu
      icases H with ⟨HP, HX⟩
      imod hf $$ HX with HG
      imodintro
      isplitl [HP]; · iexact HP
      iexact HG)
    (hglob := all_set_up m)
    (hA := fun _ _ => rfl) (hpf := fun _ k => k.elim0)
    (X := ready m) (Y := fun c => unscopedSems0 c) (Z := fun _ => iprop(emp))
    (hX := ready_intro m ρ) (hin := enters m ρ) (hout := leaves m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

end Cert.KernelIdeal.Own
-- ==== Proof.Arrays.lean ====
/- What every array of the kernel holds when it ends: the arguments as given, the output as computed. -/
module

public import proofs.«01_k».proof.Proof.Launch

@[expose] public section

set_option maxRecDepth 8000

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## What the arrays end with -/

theorem final_x (c : Dev nD) : finalA m ρ c (0 : Fin cfg0.W) = m ((c : Thread nD τ).loc main_arg0) := (dats m ρ 0 c).arrAt_in (0 : Fin cfg0.W) rfl _
theorem final_w (c : Dev nD) : finalA m ρ c (1 : Fin cfg0.W) = m ((c : Thread nD τ).loc main_arg1) := (dats m ρ 0 c).arrAt_in (1 : Fin cfg0.W) rfl _
theorem final_sx (c : Dev nD) : finalA m ρ c (2 : Fin cfg0.W) = m ((c : Thread nD τ).loc main_arg2) := (dats m ρ 0 c).arrAt_in (2 : Fin cfg0.W) rfl _
theorem final_sw (c : Dev nD) : finalA m ρ c (3 : Fin cfg0.W) = m ((c : Thread nD τ).loc main_arg3) := (dats m ρ 0 c).arrAt_in (3 : Fin cfg0.W) rfl _

/-- The output's one block, read from the array it ends as, is what the body computed. -/
theorem final_read (c : Dev nD) : (win0_4.blk (0 : Fin 1)).view.read (Elt F) (finalA m ρ c (4 : Fin cfg0.W)) = outAt m c := by
  unfold finalA
  rw [show cfg0.N = ((0 : Fin 1) : Fin cfg0.N).val + 1 from rfl, (dats m ρ 0 c).arrAt_succ (4 : Fin cfg0.W) (0 : Fin 1)]
  rw [show (cfg0.win (4 : Fin cfg0.W)).flush (0 : Fin 1) = true from by decide, if_pos rfl]
  exact View.read_write_univ _ _

/-- That block is the whole array. -/
theorem final_out (c : Dev nD) : finalA m ρ c (4 : Fin cfg0.W) = outAt m c := by
  have h := final_read m ρ c
  have hz : (fun a => (win0_4.index (0 : Fin 1)) a * main_v1.ty.shape.size a) = fun _ => 0 := funext fun a => by fin_cases a <;> decide
  have hr := fun f => Memref.read_access_unit_zero (Elt F) main_v1 hz (fun a => by fin_cases a <;> decide) f
  rw [← h]
  exact (hr _).symm

/-- So are the blocks of the four arguments. -/
theorem xstg_eq (c : Dev nD) : xstg m c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
theorem wstg_eq (c : Dev nD) : wstg m c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _
theorem sxstg_eq (c : Dev nD) : sxstg m c = m ((c : Thread nD τ).loc main_arg2) := by
  have hz : (fun a => (win0_2.index (0 : Fin 1)) a * main_arg2.ty.shape.size a) = fun _ => 0 := funext fun a => by fin_cases a; decide
  exact Memref.read_access_unit_zero (Elt F) main_arg2 hz (fun a => by fin_cases a; decide) _
theorem swstg_eq (c : Dev nD) : swstg m c = m ((c : Thread nD τ).loc main_arg3) := by
  have hz : (fun a => (win0_3.index (0 : Fin 1)) a * main_arg3.ty.shape.size a) = fun _ => 0 := funext fun a => by fin_cases a; decide
  exact Memref.read_access_unit_zero (Elt F) main_arg3 hz (fun a => by fin_cases a; decide) _

/-! ## The run, in terms of the program's arrays -/

/-- The arguments of device `c` are in `s` as they are in `m`. -/
def Kept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)

theorem kept_of_ends {r : PUnit × MemSt nD τ sig (Elt F)} (h : ends m ρ r) (c : Dev nD) : Kept m r.2 c :=
  ⟨(h c (0 : Fin cfg0.W)).trans (final_x m ρ c), (h c (1 : Fin cfg0.W)).trans (final_w m ρ c),
   (h c (2 : Fin cfg0.W)).trans (final_sx m ρ c), (h c (3 : Fin cfg0.W)).trans (final_sw m ρ c)⟩

/-- The frame: the arguments end as they were, and every counter at zero. -/
theorem run_frame : θ_run defs (onTc (τ := τ) (main (F := F))) (s₀ m ρ) (fun r => (∀ c, Kept m r.2 c) ∧ r.2.sem = fun _ => 0) :=
  (θ_run defs _ _).mono (fun _ h => ⟨kept_of_ends m ρ h.1, h.2⟩) (run_main m ρ)

/-- The value: the output of every device ends as computed. -/
theorem run_value : θ_run defs (onTc (τ := τ) (main (F := F))) (s₀ m ρ)
    (fun r => ∀ c : Dev nD, r.2.mem ((c.tc : Thread nD τ).loc main_v1) = outAt m c ∧ Kept m r.2 c) :=
  (θ_run defs _ _).mono (fun _ h c => ⟨(h.1 c (4 : Fin cfg0.W)).trans (final_out m ρ c), kept_of_ends m ρ h.1 c⟩) (run_main m ρ)

end Cert.KernelIdeal.Own
-- ==== Proof.Silu.lean ====
/- The function both programs apply to every element of the product: `y / (1 + exp (-y))`. -/
module

public import Idealize.ShloMosaic.PureOps.Ideal
public import Idealize.ShloMosaic.Lib.Pointwise

@[expose] public section

noncomputable section

namespace Cert.Product

open Idealize.ShloMosaic

/-- `y / (1 + exp (-y))`. -/
def silu (y : EReal) : EReal := Ideal.div y (1 + Ideal.exp (-y))

/-- An exponential is not negative. -/
theorem exp_nonneg (y : EReal) : 0 ≤ Ideal.exp y := by
  induction y with
  | bot => exact le_refl _
  | top => exact le_top
  | coe r => exact EReal.coe_nonneg.mpr (Real.exp_pos r).le

/-- So the denominator is not zero. -/
theorem den_ne_zero (y : EReal) : 1 + Ideal.exp y ≠ 0 := by
  have h : (1 : EReal) + 0 ≤ 1 + Ideal.exp y := add_le_add le_rfl (exp_nonneg y)
  intro e
  rw [e, add_zero] at h
  exact absurd h (not_le.mpr (by norm_num))

/-- A number times its logistic is the function: the kernel's form. -/
theorem mul_logistic (y : EReal) : y * Ideal.logistic y = silu y := by
  unfold silu Ideal.logistic Ideal.div
  rw [if_neg (den_ne_zero _), if_neg (den_ne_zero _), one_mul]

/-- The function with its argument clipped to the whole line: the reference's form. -/
theorem clipped (y : EReal) : Ideal.div y (1 + Ideal.exp (0 - min ⊤ (max ⊥ y))) = silu y := by
  unfold silu
  rw [max_eq_right bot_le, min_eq_right le_top, zero_sub]

end Cert.Product
-- ==== Proof.Payloads.lean ====
/- What each of the kernel's block computations is, element by element. -/
module

public import proofs.«01_k».proof.Proof.Silu
public import proofs.«01_k».proof.Proof.Gen.KernelIdeal.Skeleton

@[expose] public section

set_option maxRecDepth 8000

noncomputable section

namespace Cert.KernelIdeal.Own

open Idealize.ShloMosaic Cert.KernelIdeal.Gen Cert.Product

theorem pay4_at (s : Ideal .f32) (x : FVec Ideal S256x4096 .fp8e4m3) (w : FVec Ideal S4096x128 .fp8e4m3) (r : Fin 256) (l : Fin 128) :
    k0_pay4 s x w (ix2 r l) = silu ((∑ k : Fin 4096, x (ix2 r k) * w (ix2 k l)) * s) := by
  rw [← mul_logistic]
  pointwise [k0_pay4]

theorem pay5_at (s : Ideal .f32) (x : FVec Ideal S1x256x4096 .fp8e4m3) (w : FVec Ideal S4096x128 .fp8e4m3) (r : Fin 256) (l : Fin 128) :
    k0_pay5 s x w (ix2 r l) = silu ((∑ k : Fin 4096, x (ix3 0 r k) * w (ix2 k l)) * s) := by
  rw [← mul_logistic]
  pointwise [k0_pay5]

theorem pay26_at (s : Ideal .f32) (x : FVec Ideal S1x128x4096 .fp8e4m3) (w : FVec Ideal S4096x128 .fp8e4m3) (r : Fin 128) (l : Fin 128) :
    k0_pay26 s x w (ix2 r l) = silu ((∑ k : Fin 4096, x (ix3 0 r k) * w (ix2 k l)) * s) := by
  rw [← mul_logistic]
  pointwise [k0_pay26]

end Cert.KernelIdeal.Own
-- ==== Proof.Reference.lean ====
/- What the reference computes: its result array, element by element. -/
module

public import proofs.«01_k».proof.Proof.Silu
public import proofs.«01_k».proof.Proof.Gen.ReferenceIdeal.Value

@[expose] public section

set_option maxRecDepth 16384

noncomputable section

namespace Cert.ReferenceIdeal.Own

open Idealize.ShloMosaic Idealize.ShloMosaic.TcCoe Idealize.SL.Sem
open Cert.ReferenceIdeal.Gen Cert.ReferenceIdeal.Value Cert.Product

variable {F : FTy → Type} [FloatOps F] [Named F]

/-- The one index of a scale. -/
abbrev j0 : S1.Idx := fun a => ⟨0, by fin_cases a; decide⟩

/-- The run stores the whole result once, computed from the whole of its four arguments. -/
theorem out_pay (c : Dev nD) (a0 : Memref sig .tc .vmem S4096x4096 .fp8e4m3) (h0 : a0.IsWhole) (a1 : Memref sig .tc .vmem S4096x2048 .fp8e4m3) (h1 : a1.IsWhole)
    (a2 : Memref sig .tc .smem S1 .f32) (h2 : a2.IsWhole) (a3 : Memref sig .tc .smem S1 .f32) (h3 : a3.IsWhole) (a4 : Memref sig .tc .vmem S4096x2048 .f32) (h4 : a4.IsWhole)
    (x : Vec F S4096x4096 .fp8e4m3) (w : Vec F S4096x2048 .fp8e4m3) (sx sw : Vec F S1 .f32) :
    out0_A_4 c a0 h0 a1 h1 a2 h2 a3 h3 a4 h4 x w sx sw = k0_pay1 x w (sx j0) (sw j0) := by
  have hz : (![0, 0] : Fin 2 → Nat) = fun _ => 0 := funext fun a => by fin_cases a <;> rfl
  unfold out0_A_4
  rw [View.read_writes_junk_eq_canon]
  show View.canon ([⟨Rect.unit ![0, 0] S4096x2048.size inb_S4096x2048_S4096x2048_0_0,
      k0_pay1
        (View.readAt (Elt F) a0.view (Rect.unit (s := S4096x4096) ![0, 0] S4096x4096.size inb_S4096x4096_S4096x4096_0_0).toLoadRect (h0.unread x))
        (View.readAt (Elt F) a1.view (Rect.unit (s := S4096x2048) ![0, 0] S4096x2048.size inb_S4096x2048_S4096x2048_0_0).toLoadRect (h1.unread w))
        (View.readAt (Elt F) a2.view (Rect.unit (s := S1) ![0] S1.size inb_S1_S1_0).toLoadRect (h2.unread sx) _)
        (View.readAt (Elt F) a3.view (Rect.unit (s := S1) ![0] S1.size inb_S1_S1_0).toLoadRect (h3.unread sw) _)⟩] :
      List (View.Piece (Elt F) S4096x2048 .f32)) = _
  rw [View.canon_unit_zero hz]
  simp only [View.readAt_eq_ld, h0.read_unread, h1.read_unread, h2.read_unread, h3.read_unread]
  rw [View.ld_unit_zero hz, View.ld_unit_zero hz]
  refine congrArg₂ (k0_pay1 x w) (congrArg sx ?_) (congrArg sw ?_) <;>
    exact funext fun a => by fin_cases a; rfl

variable (m : (ℓ : Loc nD τ sig) → Buf (Elt F) ℓ) (ρ : Dev nD → PrngReg)

abbrev t0 : Fin cfg0.N := ⟨0, by decide⟩

/-- Each argument's one block is the whole of it. -/
theorem blk_x (c : Dev nD) : iblk m c 0 t0 = m ((c : Thread nD τ).loc main_arg0) := by
  have hz : (fun a => (win0_0.index t0) a * main_arg0.ty.shape.size a) = fun _ => 0 := funext fun a => by fin_cases a <;> decide
  rw [← V_main_arg0 m c]
  exact Memref.read_access_unit_zero (Elt F) main_arg0 hz (fun a => by fin_cases a <;> decide) _
theorem blk_w (c : Dev nD) : iblk m c 1 t0 = m ((c : Thread nD τ).loc main_arg1) := by
  have hz : (fun a => (win0_1.index t0) a * main_arg1.ty.shape.size a) = fun _ => 0 := funext fun a => by fin_cases a <;> decide
  rw [← V_main_arg1 m c]
  exact Memref.read_access_unit_zero (Elt F) main_arg1 hz (fun a => by fin_cases a <;> decide) _
theorem blk_sx (c : Dev nD) : iblk m c 2 t0 = m ((c : Thread nD τ).loc main_arg2) := by
  have hz : (fun a => (win0_2.index t0) a * main_arg2.ty.shape.size a) = fun _ => 0 := funext fun a => by fin_cases a; decide
  rw [← V_main_arg2 m c]
  exact Memref.read_access_unit_zero (Elt F) main_arg2 hz (fun a => by fin_cases a; decide) _
theorem blk_sw (c : Dev nD) : iblk m c 3 t0 = m ((c : Thread nD τ).loc main_arg3) := by
  have hz : (fun a => (win0_3.index t0) a * main_arg3.ty.shape.size a) = fun _ => 0 := funext fun a => by fin_cases a; decide
  rw [← V_main_arg3 m c]
  exact Memref.read_access_unit_zero (Elt F) main_arg3 hz (fun a => by fin_cases a; decide) _

/-- The result of the reference, from its arguments. -/
def result (c : Dev nD) : Vec F S4096x2048 .f32 :=
  k0_pay1 (m ((c : Thread nD τ).loc main_arg0)) (m ((c : Thread nD τ).loc main_arg1)) (m ((c : Thread nD τ).loc main_arg2) j0) (m ((c : Thread nD τ).loc main_arg3) j0)

/-- The result array ends holding it: its one block is the whole array too. -/
theorem final (c : Dev nD) : (dats m 0 c).arrAt 4 cfg0.N = result m c := by
  have h := blocks4 m c t0 (by decide)
  rw [flushed4_A, out_pay, blk_x, blk_w, blk_sx, blk_sw] at h
  have hz : (fun a => (win0_4.index t0) a * main_v0.ty.shape.size a) = fun _ => 0 := funext fun a => by fin_cases a <;> decide
  exact (Memref.read_access_unit_zero (Elt F) main_v0 hz (fun a => by fin_cases a <;> decide) _).symm.trans h

/-- Element `(r, l)` at the extended reals: row `r` of the first argument against column `l` of the second, scaled, through the function. -/
theorem pay_at (x : FVec Ideal S4096x4096 .fp8e4m3) (w : FVec Ideal S4096x2048 .fp8e4m3) (a b : Ideal .f32) (r : Fin 4096) (l : Fin 2048) :
    k0_pay1 (F := Ideal) x w a b (ix2 r l) = silu ((∑ k : Fin 4096, x (ix2 r k) * w (ix2 k l)) * (a * b)) := by
  rw [← clipped]
  pointwise [k0_pay1]
  rw [IdealRules.named_const.ideal_named_scalar κ "clip_hi" _ ⊤ rfl, IdealRules.named_const.ideal_named_scalar κ "clip_lo" _ ⊥ rfl]

end Cert.ReferenceIdeal.Own
-- ==== Proof.Value.lean ====
/- The output of a device at the extended reals, and that it is the device's columns of the reference's result. -/
module

public import proofs.«01_k».proof.Proof.Arrays
public import proofs.«01_k».proof.Proof.Payloads
public import proofs.«01_k».proof.Proof.Reference
public import Idealize.ShloMosaic.Lib.Layout

@[expose] public section

set_option maxRecDepth 8000

noncomputable section

namespace Cert.KernelIdeal.Own

open Idealize.ShloMosaic Idealize.ShloMosaic.TcCoe
open Cert.KernelIdeal.Gen Cert.Product

variable (m : (ℓ : Loc nD τ sig) → Buf (Elt Ideal) ℓ)

/-- Row `r` of the whole first argument is held by device `r / 256`, as its row `r % 256`. -/
def rowX (r : Fin 4096) (k : Fin 4096) : EReal :=
  (xstg m (⟨r.val / 256, by have := r.isLt; show _ < 16; omega⟩ : Dev nD) : FVec Ideal S256x4096 .fp8e4m3) (ix2 ⟨r.val % 256, Nat.mod_lt _ (by decide)⟩ k)

/-- Element `(r, l)` of device `c`'s output: row `r` of the whole first argument against column `l` of its own second argument, scaled, through the function. -/
theorem outAt_at (c : Dev nD) (r : Fin 4096) (l : Fin 128) :
    outAt m c (ix2 r l) = silu ((∑ k : Fin 4096, rowX m r k * (wstg m c : FVec Ideal S4096x128 .fp8e4m3) (ix2 k l)) * scl m c) := by
  have hr := r.isLt
  have e256 : in256 (ix2 r l) = ix2 ⟨r.val % 256, Nat.mod_lt _ (by decide)⟩ l := funext fun a => by fin_cases a <;> rfl
  have e128 : in128 (ix2 r l) = ix2 ⟨r.val % 128, Nat.mod_lt _ (by decide)⟩ l := funext fun a => by fin_cases a <;> rfl
  unfold outAt
  split_ifs with h1 h2
  · rw [e256, pay4_at]
    subst h1
    rfl
  · rw [e128, pay26_at]
    refine congrArg (fun s => silu (s * scl m c)) (Finset.sum_congr rfl fun k _ => congrArg (· * _) ?_)
    refine congrArg (xstg m _ : FVec Ideal S256x4096 .fp8e4m3) (funext fun a => Fin.ext ?_)
    fin_cases a
    · show 128 * (r.val / 128 % 2) + r.val % 128 = r.val % 256
      omega
    · rfl
  · rw [e256, pay5_at]
    refine congrArg (fun s => silu (s * scl m c)) (Finset.sum_congr rfl fun k _ => congrArg (· * _) ?_)
    exact congrArg (xstg m _ : FVec Ideal S256x4096 .fp8e4m3) (funext fun a => by fin_cases a <;> rfl)

/-! ## Against the reference -/

variable (m' : (ℓ : Loc Cert.ReferenceIdeal.nD Cert.ReferenceIdeal.τ Cert.ReferenceIdeal.sig) → Buf (Elt Ideal) ℓ)

/-- The reference's four arguments. -/
def wholeX : FVec Ideal Cert.ReferenceIdeal.S4096x4096 .fp8e4m3 := m' (((0 : Dev Cert.ReferenceIdeal.nD).tc : Thread Cert.ReferenceIdeal.nD Cert.ReferenceIdeal.τ).loc Cert.ReferenceIdeal.main_arg0)
def wholeW : FVec Ideal Cert.ReferenceIdeal.S4096x2048 .fp8e4m3 := m' (((0 : Dev Cert.ReferenceIdeal.nD).tc : Thread Cert.ReferenceIdeal.nD Cert.ReferenceIdeal.τ).loc Cert.ReferenceIdeal.main_arg1)
def wholeSx : FVec Ideal Cert.ReferenceIdeal.S1 .f32 := m' (((0 : Dev Cert.ReferenceIdeal.nD).tc : Thread Cert.ReferenceIdeal.nD Cert.ReferenceIdeal.τ).loc Cert.ReferenceIdeal.main_arg2)
def wholeSw : FVec Ideal Cert.ReferenceIdeal.S1 .f32 := m' (((0 : Dev Cert.ReferenceIdeal.nD).tc : Thread Cert.ReferenceIdeal.nD Cert.ReferenceIdeal.τ).loc Cert.ReferenceIdeal.main_arg3)

/-- The arguments of every device are its parts of the reference's. -/
def Parts : Prop := ∀ c : Dev nD,
  m ((c.tc : Thread nD τ).loc main_arg0) = Layout.block ⟨2, ![256, 4096]⟩ ⟨2, ![4096, 4096]⟩ 0 16 c (wholeX m')
  ∧ m ((c.tc : Thread nD τ).loc main_arg1) = Layout.block ⟨2, ![4096, 128]⟩ ⟨2, ![4096, 2048]⟩ 1 16 c (wholeW m')
  ∧ m ((c.tc : Thread nD τ).loc main_arg2) = wholeSx m'
  ∧ m ((c.tc : Thread nD τ).loc main_arg3) = wholeSw m'

variable {m m'}

/-- Column `l` of device `c` is column `128 c + l` of the whole. -/
abbrev colOf (c : Dev nD) (l : Fin 128) : Fin 2048 := ⟨c.val * 128 + l.val, by have h : c.val < 16 := c.isLt; have := l.isLt; omega⟩

theorem rowX_eq (h : Parts m m') (r k : Fin 4096) :
    rowX m r k = wholeX m' (ix2 r k) := by
  unfold rowX
  rw [xstg_eq, (h _).1]
  refine congrArg (wholeX m') (funext fun a => Fin.ext ?_)
  fin_cases a
  · show r.val / 256 * 256 + r.val % 256 = r.val
    omega
  · rfl

theorem colW_eq (h : Parts m m') (c : Dev nD) (k : Fin 4096) (l : Fin 128) :
    (wstg m c : FVec Ideal S4096x128 .fp8e4m3) (ix2 k l)
      = wholeW m' (ix2 k (colOf c l)) := by
  rw [wstg_eq, (h _).2.1]
  exact congrArg (wholeW m') (funext fun a => Fin.ext (by fin_cases a <;> rfl))

theorem scl_eq (h : Parts m m') (c : Dev nD) :
    scl m c = wholeSx m' Cert.ReferenceIdeal.Own.j0
      * wholeSw m' Cert.ReferenceIdeal.Own.j0 := by
  unfold scl
  rw [sxstg_eq, swstg_eq, (h _).2.2.1, (h _).2.2.2]
  rfl

/-- Each device's output is its columns of the reference's result. -/
theorem outAt_eq (h : Parts m m') (c : Dev nD) :
    outAt m c = Layout.block ⟨2, ![4096, 128]⟩ ⟨2, ![4096, 2048]⟩ 1 16 c (Cert.ReferenceIdeal.Own.result m' 0) := by
  funext i
  obtain ⟨r, l, rfl⟩ : ∃ (r : Fin 4096) (l : Fin 128), i = ix2 r l := ⟨i 0, i 1, funext fun a => by fin_cases a <;> rfl⟩
  rw [outAt_at, Layout.block_apply]
  have e : (by decide : Layout.Tiles ⟨2, ![4096, 128]⟩ ⟨2, ![4096, 2048]⟩ 1 16).idx c (ix2 r l) = ix2 r (colOf c l) :=
    funext fun a => Fin.ext (by fin_cases a <;> rfl)
  refine Eq.trans ?_ (congrArg (Cert.ReferenceIdeal.Own.result m' 0) e).symm
  unfold Cert.ReferenceIdeal.Own.result
  rw [Cert.ReferenceIdeal.Own.pay_at, scl_eq h c]
  simp only [rowX_eq h, colW_eq h]
  rfl

end Cert.KernelIdeal.Own
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Value
public import Idealize.ShloMosaic.Adequacy
public import Idealize.ShloMosaic.Init

@[expose] public section

set_option maxRecDepth 100000

noncomputable section

namespace Cert.Proof

open Idealize.ShloMosaic Idealize.SL.Sem

/-- The kernel's text is the same at both readings: its body, -/
theorem body_same : Cert.Kernel.defs₀ (F := Bits) = Cert.KernelIdeal.defs₀ (F := Bits) := by
  refine congrArg Defs.onTc (funext fun l => funext fun x => ?_)
  match l, x with
  | 0, (t, s) => rfl
  | ⟨_ + 1, h⟩, _ => exact absurd h (Nat.not_lt.2 (Nat.le_add_left _ _))

/-- and with it everything that it runs. -/
theorem defs_same : Cert.Kernel.defs (F := Bits) = Cert.KernelIdeal.defs (F := Bits) :=
  congrArg (Pipeline.defs Cert.Kernel.pcfgs) body_same

/-- The kernel as printed: it ends, its arguments as they were, every counter at zero. -/
theorem frame_kernel : Cert.quiescent_Kernel := fun m ρ _ => by
  rw [defs_same]
  exact Cert.KernelIdeal.Own.run_frame (F := Bits) m ρ

/-- The same of its text at the extended reals. -/
theorem frame_ideal : Cert.quiescent_KernelIdeal := fun m ρ _ => Cert.KernelIdeal.Own.run_frame (F := Ideal) m ρ

/-- The same of the reference. -/
theorem frame_reference : Cert.quiescent_ReferenceIdeal := fun m ρ _ => Cert.ReferenceIdeal.Gen.frame m ρ

/-- Kernel and reference agree: every device ends with its columns of the reference's result. -/
theorem algebraic : Cert.algebraic_KernelIdeal_ReferenceIdeal := fun m ρ m' ρ' _ hm =>
  ⟨Cert.ReferenceIdeal.Own.result m' 0,
   (θ_run Cert.KernelIdeal.defs _ _).mono
     (fun _ h c => ⟨(h c).1.trans (Cert.KernelIdeal.Own.outAt_eq hm c), (h c).2⟩) (Cert.KernelIdeal.Own.run_value (F := Ideal) m ρ),
   (θ_run Cert.ReferenceIdeal.defs _ _).mono
     (fun _ h => ⟨(h 0).1.trans (Cert.ReferenceIdeal.Own.final m' 0), (h 0).2⟩) (Cert.ReferenceIdeal.Value.run_blocks m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
